-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S3x1024x1024 : Shape := ⟨3, ![3, 1024, 1024]⟩
abbrev S1024x1024 : Shape := ⟨2, ![1024, 1024]⟩
abbrev S2x1024x2048 : Shape := ⟨3, ![2, 1024, 2048]⟩
abbrev S3 : Shape := ⟨1, ![3]⟩
abbrev S_ : Shape := ⟨0, ![]⟩
abbrev S2 : Shape := ⟨1, ![2]⟩
abbrev S1 : Shape := ⟨1, ![1]⟩
abbrev S1x1024x1024 : Shape := ⟨3, ![1, 1024, 1024]⟩
abbrev S1x1024x2048 : Shape := ⟨3, ![1, 1024, 2048]⟩
abbrev S1x1024x512 : Shape := ⟨3, ![1, 1024, 512]⟩
abbrev S1024x512 : Shape := ⟨2, ![1024, 512]⟩
abbrev S256x2048 : Shape := ⟨2, ![256, 2048]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S1024x2048, .f32⟩
  | .local _ .vmem, ⟨1, _⟩ => ⟨S3x1024x1024, .f32⟩
  | .local _ .vmem, ⟨2, _⟩ => ⟨S1024x1024, .f32⟩
  | .local _ .vmem, ⟨3, _⟩ => ⟨S2x1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v16 : BitVec 32 := Scalar.addi v2 c1_i32_13
  let c4_i32_14 : BitVec 32 := 4#32
  let v17 : BitVec 32 := Scalar.remsi v16 c4_i32_14
  let c1024_i32 : BitVec 32 := 1024#32
  let v18 : BitVec 32 := Scalar.muli v17 c1024_i32
  let c0_i32_22 : BitVec 32 := 0#32
  ![v18.toNat, 0]
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v16 : BitVec 32 := Scalar.addi v2 c1_i32_13
  let c4_i32_14 : BitVec 32 := 4#32
  let v17 : BitVec 32 := Scalar.remsi v16 c4_i32_14
  let c1_i32_18 : BitVec 32 := 1#32
  let v19 : BitVec 32 := Scalar.muli v17 c1_i32_18
  let v20 : BitVec 32 := Scalar.addi c0_i32_19 v19
  v20.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_23 : BitVec 32 := 2#32
  let v28 : BitVec 32 := Scalar.addi v2 c2_i32_23
  let c4_i32_24 : BitVec 32 := 4#32
  let v29 : BitVec 32 := Scalar.remsi v28 c4_i32_24
  let c1_i32_29 : BitVec 32 := 1#32
  let v31 : BitVec 32 := Scalar.muli v29 c1_i32_29
  let v32 : BitVec 32 := Scalar.addi c0_i32_30 v31
  v32.toNat
def k0_dev6 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v40 : BitVec 32 := Scalar.addi v2 c3_i32_34
  let c4_i32_35 : BitVec 32 := 4#32
  let v41 : BitVec 32 := Scalar.remsi v40 c4_i32_35
  let c1_i32_40 : BitVec 32 := 1#32
  let v43 : BitVec 32 := Scalar.muli v41 c1_i32_40
  let v44 : BitVec 32 := Scalar.addi c0_i32_41 v43
  v44.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_45 : BitVec 32 := 1024#32
  let v52 : BitVec 32 := Scalar.muli v2 c1024_i32_45
  let c0_i32_46 : BitVec 32 := 0#32
  ![v52.toNat, 0]
def k0_off3 (d0 : Dev nD) (c0_i32_47 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v54 : BitVec 32 := Scalar.subi v2 c0_i32_47
  let c4_i32_48 : BitVec 32 := 4#32
  let v55 : BitVec 32 := Scalar.addi v54 c4_i32_48
  let c4_i32_49 : BitVec 32 := 4#32
  let v56 : BitVec 32 := Scalar.remsi v55 c4_i32_49
  let c1024_i32_50 : BitVec 32 := 1024#32
  let v57 : BitVec 32 := Scalar.muli v56 c1024_i32_50
  let c0_i32_55 : BitVec 32 := 0#32
  ![v57.toNat, 0]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Same.lean ====
/-
# The two readings of the kernel are one program

The kernel as printed and its reading over the ideal values differ in nothing: over any float values, the two tables of
bodies are equal.
-/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The kernel's one body, for its one label. -/
theorem same_bodies : Cert.Kernel.defs₀ (F := F) = Cert.KernelIdeal.defs₀ (F := F) :=
  congrArg Defs.onTc (funext fun ℓ => funext fun a => match ℓ, a with
    | ⟨0, _⟩, (_, _) => rfl
    | ⟨_ + 1, h⟩, _ => absurd h (Nat.not_lt.2 (Nat.le_add_left _ _)))

/-- The whole table: the bodies and the pipelines around them. -/
theorem same_defs : Cert.Kernel.defs (F := F) = Cert.KernelIdeal.defs (F := F) :=
  congrArg (Pipeline.defs (Cert.KernelIdeal.pcfgs (F := F))) same_bodies

end Cert.Proof

end
-- ==== Proof.Views.lean ====
/-
# Owning a window of a buffer by what it reads

The kernel works on windows of its buffers: a block of rows, one slot of a ring of slots, a band of columns. All
its steps are phrased by `owns c M q v`: core `c` holds the elements of the window `M`, and reads `v` through it.
This file has, for windows of any buffer:
* loads and stores of a window, in terms of what is read through it;
* a local copy and its wait, in the same terms;
* a buffer cut into disjoint windows that cover it, and put together again.
Nothing here depends on the kernel.
-/
module

public import proofs.«01_k».proof.Proof.Gen.KernelIdeal
public import Idealize.ShloMosaic.Lib.Pipeline.Launch
public import Idealize.ShloMosaic.Lib.Pipeline.Kit
public import Idealize.ShloMosaic.Lib.Transfers
public import Idealize.ShloMosaic.Lib.ViewIndex
public import Idealize.ShloMosaic.Lib.Tactic

@[expose] public section

noncomputable section

namespace Cert.Proof.Windows

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U] {Lvl : Type}

/-- The window is held, whatever it holds. -/
def someIn (c : Thread nD τ) {sp : Space} {s : Shape} {e : EltTy} (M : Memref sig c.2.kind sp s e) : sProp (MT nD τ sig Ix Val Name U Lvl) :=
  iprop(∃ v, owns c M fullShare v)

instance someIn_storable (c : Thread nD τ) {sp : Space} {s : Shape} {e : EltTy} (M : Memref sig c.2.kind sp s e) :
    BI.Storable (upEmb : UEmb _ (MT nD τ sig Ix Val Name U Lvl)) (someIn c M) := by
  unfold someIn; infer_instance

theorem someIn_of_owns (c : Thread nD τ) {sp : Space} {s : Shape} {e : EltTy} (M : Memref sig c.2.kind sp s e) (v : s.Idx → Val e) :
    (owns c M fullShare v : sProp (MT nD τ sig Ix Val Name U Lvl)) ⊢ someIn c M := by
  unfold someIn; iintro H; iexists v; iexact H

/-- A window held at contents `f` of its buffer. -/
theorem owns_intro (c : Thread nD τ) {sp : Space} {s : Shape} {e : EltTy} (M : Memref sig c.2.kind sp s e) (q : PosShare TreeShare)
    (f : Buf Val (M.view.loc c)) (v : s.Idx → Val e) (h : M.view.read Val f = v) :
    (M.view.loc c ↦[M.view.set]{q} f : sProp (MT nD τ sig Ix Val Name U Lvl)) ⊢ owns c M q v := by
  unfold owns; iintro H; iexists f
  isplitr; · ipureintro; exact h
  iexact H

/-- Dropping the unit axes of a window changes only how its elements are indexed. -/
theorem owns_squeeze (c : Thread nD τ) {sp : Space} {s s' : Shape} {e : EltTy} (M : Memref sig c.2.kind sp s e) (h : s.Squeezes s')
    (q : PosShare TreeShare) (v : s'.Idx → Val e) :
    (owns c (M.squeeze s' h) q v : sProp (MT nD τ sig Ix Val Name U Lvl)) = owns c M q (fun x => v ((Shape.reshapeEquiv h.numel_eq).symm x)) := by
  unfold owns
  have hset : (M.squeeze s' h).view.set = M.view.set := View.set_reshape (v := M.view) h.numel_eq
  have hread : ∀ f : Buf Val (M.view.loc c), ((M.squeeze s' h).view.read Val f = v) ↔
      (M.view.read Val f = fun x => v ((Shape.reshapeEquiv h.numel_eq).symm x)) := fun f =>
    ⟨fun hf => funext fun x => by
        rw [← hf]
        show _ = M.view.read Val f (Shape.reshapeEquiv h.numel_eq ((Shape.reshapeEquiv h.numel_eq).symm x))
        rw [Equiv.apply_symm_apply],
      fun hf => funext fun x => by
        show M.view.read Val f (Shape.reshapeEquiv h.numel_eq x) = _
        rw [hf]; exact congrArg v (Equiv.symm_apply_apply _ _)⟩
  refine congrArg (fun Φ : Buf Val (M.view.loc c) → sProp (MT nD τ sig Ix Val Name U Lvl) => iprop(∃ f, Φ f)) (funext fun f => ?_)
  rw [hset]
  exact congrArg (fun p : Prop => (iprop(⌜p⌝ ∗ (M.view.loc c ↦[M.view.set]{q} f)) : sProp (MT nD τ sig Ix Val Name U Lvl))) (propext (hread f))

/-! ## Loads and stores -/

section Steps

variable {Λ : Labels} [Preorder Lvl] {defs : Defs nD τ sig Val Λ} (𝒱 : Variants) (c : Thread nD τ)
variable {α : Type} {Q : α → sProp (MT nD τ sig Ix Val Name U Lvl)} {s : Shape} {e : EltTy} {cs : CoreSpace}

/-- A load through a held window. -/
theorem load_of {m : Memref sig c.2.kind cs s e} {r : LoadRect s} {hl : m.view.LoadsAt r}
    {k : (r.shape.Idx → Val e) → Prog (TpuEff nD τ sig Val Λ c.2) α} {q : PosShare TreeShare} {v : s.Idx → Val e} :
    (owns c m q v : sProp (MT nD τ sig Ix Val Name U Lvl))
      ⊢ iprop((owns c m q v -∗ wp frame (wpE defs 𝒱 c none) Set.univ (k fun x => v (r.idx x)) Q)
        -∗ wp frame (wpE defs 𝒱 c none) Set.univ (.op (.load m r hl) k) Q) := by
  unfold owns
  iintro ⟨%f, %hf, H⟩ Hk
  iapply (wp_load 𝒱 c none Set.univ (m := m) (View.setOn_subset_set _ _)) $$ H
  iintro H
  have hv : m.view.readAt Val r f = fun x => v (r.idx x) := by rw [← hf]; rfl
  rw [hv]
  iapply Hk; iexists f
  isplitr; · ipureintro; exact hf
  iexact H

/-- A load of exactly a held rectangle. -/
theorem load_rect {m : Memref sig c.2.kind cs s e} {r : Rect s} {hr : ∀ a, r.stride a = 1} {hl : m.view.LoadsAt r}
    {k : (r.shape.Idx → Val e) → Prog (TpuEff nD τ sig Val Λ c.2) α} {q : PosShare TreeShare} {v : r.shape.Idx → Val e} :
    (owns c (m.slice r hr) q v : sProp (MT nD τ sig Ix Val Name U Lvl))
      ⊢ iprop((owns c (m.slice r hr) q v -∗ wp frame (wpE defs 𝒱 c none) Set.univ (k v) Q)
        -∗ wp frame (wpE defs 𝒱 c none) Set.univ (.op (.load m r hl) k) Q) := by
  unfold owns
  iintro ⟨%f, %hf, H⟩ Hk
  iapply (wp_load_rect 𝒱 c none Set.univ (m := m) (r := r) (Finset.Subset.refl _)) $$ H
  iintro H
  have hv : (m.access r).read Val f = v := hf
  rw [hv]
  iapply Hk; iexists f
  isplitr; · ipureintro; exact hf
  iexact H

/-- A load of a part of a held slot, the slot held with its unit axes dropped: the part's elements are found in the
    slot at `g`. -/
theorem load_in {m : Memref sig c.2.kind cs s e} {r : Rect s} {hl : m.view.LoadsAt r}
    {k : (r.shape.Idx → Val e) → Prog (TpuEff nD τ sig Val Λ c.2) α} {r' : Rect s} {hr' : ∀ a, r'.stride a = 1} {s' : Shape}
    {hsq : r'.shape.Squeezes s'} {q : PosShare TreeShare} {v : s'.Idx → Val e} (g : r.shape.Idx → s'.Idx)
    (hg : ∀ x, r'.emb (Shape.reshapeEquiv hsq.numel_eq (g x)) = r.emb x) :
    (owns c ((m.slice r' hr').squeeze s' hsq) q v : sProp (MT nD τ sig Ix Val Name U Lvl))
      ⊢ iprop((owns c ((m.slice r' hr').squeeze s' hsq) q v -∗ wp frame (wpE defs 𝒱 c none) Set.univ (k fun x => v (g x)) Q)
        -∗ wp frame (wpE defs 𝒱 c none) Set.univ (.op (.load m r hl) k) Q) := by
  unfold owns
  iintro ⟨%f, %hf, H⟩ Hk
  have hsub : (m.access r).set ⊆ ((m.slice r' hr').squeeze s' hsq).view.set := fun i hi => by
    obtain ⟨x, -, rfl⟩ := Finset.mem_map.mp hi
    refine Finset.mem_map.mpr ⟨g x, Finset.mem_univ _, ?_⟩
    show m.view.emb (r'.emb (Shape.reshapeEquiv hsq.numel_eq (g x))) = m.view.emb (r.emb x)
    rw [hg]
  iapply (wp_load_rect 𝒱 c none Set.univ (m := m) (r := r) hsub) $$ H
  iintro H
  have hv : (m.access r).read Val f = fun x => v (g x) := by
    rw [← hf]; funext x
    show m.view.read Val f (r.emb x) = m.view.read Val f (r'.emb (Shape.reshapeEquiv hsq.numel_eq (g x)))
    rw [hg]
  rw [hv]
  iapply Hk; iexists f
  isplitr; · ipureintro; exact hf
  iexact H

/-- A store to exactly a held rectangle. -/
theorem store_rect {m : Memref sig c.2.kind cs s e} {r : Rect s} {hr : ∀ a, r.stride a = 1} {w : r.shape.Idx → Val e}
    {hx : (m.access r).Stores Finset.univ} {hm : _} {k : PUnit → Prog (TpuEff nD τ sig Val Λ c.2) α} {v : r.shape.Idx → Val e} :
    (owns c (m.slice r hr) fullShare v : sProp (MT nD τ sig Ix Val Name U Lvl))
      ⊢ iprop((owns c (m.slice r hr) fullShare w -∗ wp frame (wpE defs 𝒱 c none) Set.univ (k ⟨⟩) Q)
        -∗ wp frame (wpE defs 𝒱 c none) Set.univ (.op (.store m r w Finset.univ hx hm) k) Q) := by
  unfold owns
  iintro ⟨%f, %hf, H⟩ Hk
  ihave H : ((m.access r).loc c ↦[(m.access r).setOn Finset.univ]{fullShare} f) $$ [H]
  · iexact H
  iapply (wp_store 𝒱 c none Set.univ (m := m) (r := r) (Mk := Finset.univ) (Finset.Subset.refl _)) $$ H
  iintro H
  iapply Hk; iexists _
  isplitr; · ipureintro; exact View.read_write_univ (v := m.access r) f w
  iexact H

/-! ## A local copy -/

variable {EC : UEmb Counters (MT nD τ sig Ix Val Name U Lvl)} [EC.LandsIn (upEmb : UEmb _ (MT nD τ sig Ix Val Name U Lvl))] [Infinite Name] {sp sp' : Space}

/-- Starting a local copy: both windows go into the flight, whose landing gives them back, the target reading what
    the source reads. -/
theorem copy_start {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {v : s.Idx → Val e}
    (ι : Ix) (N : ℕ) (hN : dst.view.amount sm = N) (hN0 : 0 < N) :
    iprop(owns c src q v ∗ someIn c dst ∗ semVal (c, sm) 0)
      ⊢ iprop((Transfers.Flight EC c sm ι N iprop(owns c dst fullShare v ∗ owns c src q v) -∗ wp frame (wpE defs 𝒱 c none) Set.univ (k ⟨⟩) Q)
          -∗ wp frame (wpE defs 𝒱 c none) Set.univ (.op (.enqueueDma src (.here dst) sm hsrc hdst hsem) k) Q) := by
  unfold someIn owns
  iintro ⟨⟨%fs, %hfs, Hs⟩, ⟨%v0, %fd, %hfd, Hd⟩, Hv⟩ Hk
  iapply (Transfers.wp_dmaLocal EC 𝒱 c none (src := src) (dst := dst) (fs := fs) (fd := fd) ι N hN hN0 (Finset.Subset.refl _)) $$ [Hs Hd Hv]
  · isplitl [Hs]; · iexact Hs
    isplitl [Hd] <;> iassumption
  iintro HF
  iapply Hk
  iapply (Transfers.Flight_mono EC c ?_) $$ HF
  iintro ⟨Hd, Hs⟩
  isplitl [Hd]
  · iexists _
    isplitr; · ipureintro; exact (View.read_write_univ (v := dst.view) fd _).trans hfs
    iexact Hd
  · iexists fs
    isplitr; · ipureintro; exact hfs
    iexact Hs

end Steps

/-! ## A buffer cut into windows -/

section Cut

variable (c : Thread nD τ) (b : Ref sig c.2.kind) {n : ℕ} (r : Fin n → Rect b.ty.shape) (hr : ∀ k a, (r k).stride a = 1)
  (which : b.ty.shape.Idx → Fin n) (hw : ∀ k i, i ∈ (r k).set ↔ which i = k)

/-- The elements of window `k`, as elements of the buffer. -/
def cutSet (k : Fin n) : Finset (Idx (c.loc b)) := ((Memref.whole b).slice (r k) (hr k)).view.set

include hw in
theorem cut_disjoint : ∀ k ∈ (Finset.univ : Finset (Fin n)), ∀ k' ∈ (Finset.univ : Finset (Fin n)), k ≠ k' →
    Disjoint (cutSet c b r hr k) (cutSet c b r hr k') := by
  intro k _ k' _ hne
  refine Finset.disjoint_left.mpr fun i hi hi' => hne ?_
  have h1 : i ∈ (r k).set := by rw [← View.set_slice_whole b (r k)]; exact hi
  have h2 : i ∈ (r k').set := by rw [← View.set_slice_whole b (r k')]; exact hi'
  rw [← (hw k i).mp h1, (hw k' i).mp h2]

include hw in
theorem cut_cover : (Finset.univ.biUnion (cutSet c b r hr)) = Finset.univ := by
  ext i
  simp only [Finset.mem_biUnion, Finset.mem_univ, true_and, iff_true]
  refine ⟨which i, ?_⟩
  show i ∈ ((View.whole b).slice (r (which i))).set
  rw [View.set_slice_whole]; exact (hw _ _).mpr rfl

include hw in
/-- A whole buffer is its windows, each reading its part. -/
theorem cut (q : PosShare TreeShare) (f : Buf Val (c.loc b)) :
    (c.loc b ↦{q} f : sProp (MT nD τ sig Ix Val Name U Lvl))
      ⊢ bigSep Finset.univ fun k => owns c ((Memref.whole b).slice (r k) (hr k)) q (((View.whole b).slice (r k)).read Val f) := by
  have h := pointsTo_biUnion (Ix := Ix) (Name := Name) (U := U) (Lvl := Lvl) (ℓ := c.loc b) (q := q) (f := f) Finset.univ _ (cut_disjoint c b r hr which hw)
  rw [cut_cover c b r hr which hw] at h
  rw [h]
  exact bigSep_mono fun k _ => owns_intro c ((Memref.whole b).slice (r k) (hr k)) q f _ rfl

/-- A window reading its part of `g` is its elements at `g`. -/
theorem owns_at (q : PosShare TreeShare) (g : Buf Val (c.loc b)) (k : Fin n) :
    (owns c ((Memref.whole b).slice (r k) (hr k)) q (((View.whole b).slice (r k)).read Val g) : sProp (MT nD τ sig Ix Val Name U Lvl))
      ⊢ (c.loc b ↦[cutSet c b r hr k]{q} g) := by
  unfold owns
  iintro ⟨%f, %hf, H⟩
  have hfg : ∀ i ∈ cutSet c b r hr k, f i = g i := fun i hi => by
    obtain ⟨x, -, rfl⟩ := Finset.mem_map.mp hi
    exact congrFun hf x
  rw [← pointsTo_congr (q := q) hfg]
  iexact H

/-- A window holding anything is its elements at some contents of the buffer. -/
theorem someIn_at (k : Fin n) :
    (someIn c ((Memref.whole b).slice (r k) (hr k)) : sProp (MT nD τ sig Ix Val Name U Lvl))
      ⊢ iprop(∃ f : Buf Val (c.loc b), c.loc b ↦[cutSet c b r hr k]{fullShare} f) := by
  unfold someIn owns
  iintro ⟨%v, %f, %hf, H⟩
  iexists f; iexact H

include hw in
/-- The windows of a buffer, reading the parts of `g`, are the whole buffer at `g`. -/
theorem uncut (q : PosShare TreeShare) (g : Buf Val (c.loc b)) :
    (bigSep Finset.univ fun k => owns c ((Memref.whole b).slice (r k) (hr k)) q (((View.whole b).slice (r k)).read Val g))
      ⊢ (c.loc b ↦{q} g : sProp (MT nD τ sig Ix Val Name U Lvl)) := by
  have h := pointsTo_biUnion (Ix := Ix) (Name := Name) (U := U) (Lvl := Lvl) (ℓ := c.loc b) (q := q) (f := g) Finset.univ _ (cut_disjoint c b r hr which hw)
  rw [cut_cover c b r hr which hw] at h
  rw [h]
  exact bigSep_mono fun k _ => owns_at c b r hr q g k

include hw in
/-- Windows holding anything are the whole buffer at some contents. -/
theorem uncut_some (f₀ : Buf Val (c.loc b)) :
    (bigSep Finset.univ fun k => someIn c ((Memref.whole b).slice (r k) (hr k)))
      ⊢ (iprop(∃ g, c.loc b ↦{fullShare} g) : sProp (MT nD τ sig Ix Val Name U Lvl)) := by
  have hopen : (bigSep Finset.univ fun k => (someIn c ((Memref.whole b).slice (r k) (hr k)) : sProp (MT nD τ sig Ix Val Name U Lvl)))
      ⊢ bigSep Finset.univ fun k => iprop(∃ f : Buf Val (c.loc b), c.loc b ↦[cutSet c b r hr k]{fullShare} f) :=
    bigSep_mono fun k _ => someIn_at c b r hr k
  haveI : Nonempty (Buf Val (c.loc b)) := ⟨f₀⟩
  refine hopen.trans ((BI.bigSep_exists_pi Finset.univ fun k (f : Buf Val (c.loc b)) =>
    (c.loc b ↦[cutSet c b r hr k]{fullShare} f : sProp (MT nD τ sig Ix Val Name U Lvl))).trans ?_)
  iintro ⟨%fs, H⟩
  ihave H' := (pointsTo_biUnion_join (Ix := Ix) (Name := Name) (U := U) (Lvl := Lvl) (ℓ := c.loc b) (q := fullShare) Finset.univ _ fs f₀
    (cut_disjoint c b r hr which hw)) $$ H
  rw [cut_cover c b r hr which hw]
  icases H' with ⟨%g, -, H⟩
  iexists g; iexact H

end Cut

end Cert.Proof.Windows

end
-- ==== Proof.Mesh.lean ====
/-
# The devices, the windows and the cells

* `fwd c j`: the device `j + 1` places after `c` around the four, which `c` sends its `j`-th block to; `src c s`: the
  device whose block of `x` device `c` multiplies at step `s` (its own at step 0, then the three it receives).
* The windows of the buffers the kernel touches: row blocks of the two arguments, the slots of its two scratch rings,
  the column bands and row bands of the result's buffer.
* The seven cells of a device that another device takes part in: its barrier counter, three send counters, three receive
  counters.
-/
module

public import proofs.«01_k».proof.Proof.Gen.KernelIdeal
public import proofs.«01_k».proof.Proof.Views

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

/-! ## The devices around the mesh -/

set_option backward.proofsInPublic true in
/-- The device `j + 1` places after `c`. -/
def fwd (c : Dev nD) (j : Fin 3) : Dev nD := ⟨(c.val + j.val + 1) % 4, Nat.mod_lt _ (by decide)⟩
set_option backward.proofsInPublic true in
/-- The device `s` places before `c`. -/
def src (c : Dev nD) (s : Fin 4) : Dev nD := ⟨(c.val + 4 - s.val) % 4, Nat.mod_lt _ (by decide)⟩

theorem src_zero (c : Dev nD) : src c 0 = c := by revert c; decide
theorem src_fwd (c : Dev nD) (j : Fin 3) : src (fwd c j) j.succ = c := by revert c j; decide
theorem fwd_src (c : Dev nD) (j : Fin 3) : fwd (src c j.succ) j = c := by revert c j; decide
theorem fwd_rev (c : Dev nD) (j : Fin 3) : fwd (fwd c j) j.rev = c := by revert c j; decide
theorem fwd_injective (c : Dev nD) : Function.Injective (fwd c) := by revert c; decide

/-- Going `j + 1` places around, and back. -/
def turn (j : Fin 3) : Dev nD ≃ Dev nD where
  toFun c := fwd c j
  invFun c := src c j.succ
  left_inv c := src_fwd c j
  right_inv c := fwd_src c j

/-! ## The windows -/

abbrev xM : Memref sig .tc .hbm S4096x1024 .f32 := Memref.whole main_arg0
abbrev wM : Memref sig .tc .hbm S4096x2048 .f32 := Memref.whole main_arg1
abbrev outM : Memref sig .tc .vmem S1024x2048 .f32 := Memref.whole cc0_stg0_0
abbrev ringM : Memref sig .tc .vmem S3x1024x1024 .f32 := Memref.whole cc0_scratch0
abbrev ownM : Memref sig .tc .vmem S1024x1024 .f32 := Memref.whole cc0_scratch1
abbrev wringM : Memref sig .tc .vmem S2x1024x2048 .f32 := Memref.whole cc0_scratch2

theorem xRect_inb (r : Dev nD) : ∀ a, (![1024 * r.val, 0] : Fin 2 → Nat) a + S1024x1024.size a ≤ S4096x1024.size a := by
  revert r; decide
theorem wRect_inb (r : Dev nD) : ∀ a, (![1024 * r.val, 0] : Fin 2 → Nat) a + S1024x2048.size a ≤ S4096x2048.size a := by
  revert r; decide
theorem ringRect_inb (j : Fin 3) : ∀ a, (![j.val, 0, 0] : Fin 3 → Nat) a + S1x1024x1024.size a ≤ S3x1024x1024.size a := by
  revert j; decide
theorem wringRect_inb (b : Fin 2) : ∀ a, (![b.val, 0, 0] : Fin 3 → Nat) a + S1x1024x2048.size a ≤ S2x1024x2048.size a := by
  revert b; decide
theorem colRect_inb (n : Fin 4) : ∀ a, (![0, 512 * n.val] : Fin 2 → Nat) a + S1024x512.size a ≤ S1024x2048.size a := by
  revert n; decide
theorem rowRect_inb (k : Fin 4) : ∀ a, (![256 * k.val, 0] : Fin 2 → Nat) a + S256x2048.size a ≤ S1024x2048.size a := by
  revert k; decide

/-- Row block `r` of this device's columns of `x`; -/
abbrev xRect (r : Dev nD) : Rect S4096x1024 := Rect.unit (s := S4096x1024) ![1024 * r.val, 0] S1024x1024.size (xRect_inb r)
/-- row block `r` of `w`; -/
abbrev wRect (r : Dev nD) : Rect S4096x2048 := Rect.unit (s := S4096x2048) ![1024 * r.val, 0] S1024x2048.size (wRect_inb r)
/-- slot `j` of the receive ring; -/
abbrev ringRect (j : Fin 3) : Rect S3x1024x1024 := Rect.unit (s := S3x1024x1024) ![j.val, 0, 0] S1x1024x1024.size (ringRect_inb j)
/-- slot `b` of the ring of `w` blocks; -/
abbrev wringRect (b : Fin 2) : Rect S2x1024x2048 := Rect.unit (s := S2x1024x2048) ![b.val, 0, 0] S1x1024x2048.size (wringRect_inb b)
/-- the `n`-th band of 512 columns of the result; -/
abbrev colRect (n : Fin 4) : Rect S1024x2048 := Rect.unit (s := S1024x2048) ![0, 512 * n.val] S1024x512.size (colRect_inb n)
/-- the `k`-th band of 256 rows of the result. -/
abbrev rowRect (k : Fin 4) : Rect S1024x2048 := Rect.unit (s := S1024x2048) ![256 * k.val, 0] S256x2048.size (rowRect_inb k)

abbrev xRow (r : Dev nD) : Memref sig .tc .hbm S1024x1024 .f32 := xM.slice (xRect r) (fun _ => rfl)
abbrev wRow (r : Dev nD) : Memref sig .tc .hbm S1024x2048 .f32 := wM.slice (wRect r) (fun _ => rfl)
abbrev slot (j : Fin 3) : Memref sig .tc .vmem S1024x1024 .f32 :=
  (ringM.slice (ringRect j) (fun _ => rfl)).squeeze S1024x1024 squeezes_S1x1024x1024_S1024x1024
abbrev wslot (b : Fin 2) : Memref sig .tc .vmem S1024x2048 .f32 :=
  (wringM.slice (wringRect b) (fun _ => rfl)).squeeze S1024x2048 squeezes_S1x1024x2048_S1024x2048
abbrev col (n : Fin 4) : Memref sig .tc .vmem S1024x512 .f32 := outM.slice (colRect n) (fun _ => rfl)
abbrev row (k : Fin 4) : Memref sig .tc .vmem S256x2048 .f32 := outM.slice (rowRect k) (fun _ => rfl)

/-! ## The cells -/

theorem sem3_inb (j : Fin 3) : ∀ a, (![j.val] : Fin 1 → Nat) a + S1.size a ≤ S3.size a := by revert j; decide
theorem sem2_inb (b : Fin 2) : ∀ a, (![b.val] : Fin 1 → Nat) a + S1.size a ≤ S2.size a := by revert b; decide

/-- The barrier counter, and the counters of the copies. -/
abbrev barS : Sem sig := (SemArray.scalar (sig.barrier 0 rfl) : Sems sig S_).sem
abbrev sendS (j : Fin 3) : DmaSem sig := ((cc0_scratch3.slice (Rect.unit (s := S3) ![j.val] S1.size (sem3_inb j))).squeeze S_ squeezes_S1_S_).sem
abbrev recvS (j : Fin 3) : DmaSem sig := ((cc0_scratch4.slice (Rect.unit (s := S3) ![j.val] S1.size (sem3_inb j))).squeeze S_ squeezes_S1_S_).sem
abbrev ownS : DmaSem sig := cc0_scratch5.sem
abbrev wS (b : Fin 2) : DmaSem sig := ((cc0_scratch6.slice (Rect.unit (s := S2) ![b.val] S1.size (sem2_inb b))).squeeze S_ squeezes_S1_S_).sem

/-- A device's cells that other devices take part in: its barrier, its send counters, its receive counters. -/
abbrev CK : Type := Option (Bool × Fin 3)
abbrev csem : CK → SemLoc sig
  | none => .reg barS
  | some (false, j) => .dma (sendS j)
  | some (true, j) => .dma (recvS j)
abbrev kcell (ck : Dev nD × CK) : GSem nD τ sig := ((ck.1 : Thread nD τ), csem ck.2)
abbrev barCell (c : Dev nD) : GSem nD τ sig := kcell (c, none)
abbrev sendCell (c : Dev nD) (j : Fin 3) : GSem nD τ sig := kcell (c, some (false, j))
abbrev recvCell (c : Dev nD) (j : Fin 3) : GSem nD τ sig := kcell (c, some (true, j))

/-- Which of the cells a counter is, if any. -/
def kindOf (sm : SemLoc sig) : Option CK :=
  [none, some (false, 0), some (false, 1), some (false, 2), some (true, 0), some (true, 1), some (true, 2)].find? fun k => csem k = sm

theorem kindOf_csem (k : CK) : kindOf (csem k) = some k := by revert k; decide

theorem csem_injective : Function.Injective csem := fun k k' h => by
  have := congrArg kindOf h; rw [kindOf_csem, kindOf_csem] at this; exact Option.some.inj this

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem kcell_eq_iff {a b : Dev nD × CK} : Iff (kcell a = kcell b) (a = b) := kcell_injective.eq_iff

/-- What one block of `x` adds to a counter, as it leaves and as it lands. -/
def N : ℕ := (slot 0).view.dmaCredit
theorem N_pos : 0 < N := View.dmaCredit_pos _ (by decide)
theorem slot_credit (j : Fin 3) : (slot j).view.dmaCredit = N := rfl
theorem xRow_credit (r : Dev nD) : (xRow r).view.dmaCredit = N := rfl

/-! ## The contents -/

variable (m : (ℓ : Loc nD τ sig) → Buf (Elt F) ℓ)

/-- Row block `r` of device `c`'s columns of `x`, and row block `r` of its `w`. -/
def xBlk (c r : Dev nD) : S1024x1024.Idx → Elt F .f32 := (xRow r).view.read (Elt F) (m ((c : Thread nD τ).loc main_arg0))
def wBlk (c r : Dev nD) : S1024x2048.Idx → Elt F .f32 := (wRow r).view.read (Elt F) (m ((c : Thread nD τ).loc main_arg1))

end Cert.Proof

end
-- ==== Proof.Protocol.lean ====
/-
# The protocol between the devices

Every device signals each other device's barrier once, and waits for three signals on its own: a signal from the device
`j + 1` places ahead hands over that device's slot `j`, which is where this device's `j`-th block goes. Then it sends
its three blocks; a block landing adds to the target's receive counter and hands the slot over, filled; the block
having left adds to the sender's own send counter and gives the sent rows back.

All of it takes place in one round of the cells' schedule. The levels put a barrier below a receive counter, so that a
device may wait at its barrier while it still owes its blocks.
-/
module

public import proofs.«01_k».proof.Proof.Mesh

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

/-! ## The resource algebra: the pipeline's rounds, these cells' rounds, and the local copies' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the rounds of these cells sit: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The schedule -/

/-- What the signal from the device `j + 1` places ahead of `c` hands `c`: that device's slot `j`, and that its receive
    counter for it is at the start. -/
def barPay (c : Dev nD) (j : Fin 3) : sProp 𝕄 :=
  iprop(someIn (fwd c j : Thread nD τ) (slot j) ∗ reached ER (recvCell (fwd c j) j) 0)
/-- What a block having left gives back: the rows sent. -/
def sendPay (c : Dev nD) (j : Fin 3) : sProp 𝕄 := owns (c : Thread nD τ) (xRow (fwd c j)) fullShare (xBlk m c (fwd c j))
/-- What a block landing gives: the slot holding the sender's rows for this device. -/
def recvPay (c : Dev nD) (j : Fin 3) : sProp 𝕄 := owns (c : Thread nD τ) (slot j) fullShare (xBlk m (src c j.succ) c)

def payOf (c : Dev nD) : Option CK → Fin 3 → sProp 𝕄
  | some none, d => barPay c d
  | some (some (false, j)), _ => sendPay m c j
  | some (some (true, j)), _ => recvPay m c j
  | none, _ => iprop(emp)

instance payOf_storable (c : Dev nD) (k : Option CK) (d : Fin 3) : BI.Storable (upEmb : UEmb _ 𝕄) (payOf m c k d) := by
  rcases k with _ | _ | ⟨_ | _, j⟩ <;> unfold payOf <;> try unfold barPay
  all_goals try unfold sendPay
  all_goals try unfold recvPay
  all_goals infer_instance

def dutiesOf : Option CK → Finset (Fin 3)
  | some none => Finset.univ
  | some (some _) => {0}
  | none => ∅

def amountOf : Option CK → ℕ
  | some (some _) => N
  | _ => 1

theorem amountOf_pos : ∀ k, 0 < amountOf k
  | some (some _) => N_pos
  | some none => Nat.one_pos
  | none => Nat.one_pos

def sched : Rounds.Schedule (GSem nD τ sig) (Fin 3) 𝕄 where
  duties g r := if r = 0 ∧ g.1.2 = .tc then dutiesOf (kindOf g.2) else ∅
  unitless _ := False
  amount g _ _ := amountOf (kindOf g.2)
  payload g _ d := payOf m g.1.1 (kindOf g.2) d
  amount_pos g _ _ _ := amountOf_pos _

instance sched_payload_storable (g : GSem nD τ sig) (r : ℕ) (d : Fin 3) :
    BI.Storable (upEmb : UEmb _ 𝕄) ((sched (F := F) m).payload g r d) := payOf_storable m _ _ _

section Sched
variable (c : Dev nD) (k : CK)

omit [FloatOps F] in
theorem duties_cell : (sched (F := F) m).duties (kcell (c, k)) 0 = dutiesOf (some k) := by
  dsimp only [sched]; rw [if_pos ⟨rfl, rfl⟩, kindOf_csem]
omit [FloatOps F] in
theorem duties_later (g : GSem nD τ sig) : ∀ r, 1 ≤ r → (sched (F := F) m).duties g r = ∅ :=
  fun r hr => by dsimp only [sched]; rw [if_neg fun h => by omega]
omit [FloatOps F] in
theorem amount_cell (d : Fin 3) : (sched (F := F) m).amount (kcell (c, k)) 0 d = amountOf (some k) := by
  dsimp only [sched]; rw [kindOf_csem]
omit [FloatOps F] in
theorem payload_cell (d : Fin 3) : (sched (F := F) m).payload (kcell (c, k)) 0 d = payOf m c (some k) d := by
  dsimp only [sched]; rw [kindOf_csem]
omit [FloatOps F] in
theorem expect_bar : (sched (F := F) m).expect (barCell c) 0 = 3 := by
  unfold Schedule.expect Schedule.amountOf
  rw [duties_cell, Finset.sum_congr rfl fun d _ => amount_cell m c none d]; rfl
omit [FloatOps F] in
theorem expect_copy (b : Bool) (j : Fin 3) : (sched (F := F) m).expect (kcell (c, some (b, j))) 0 = N := by
  unfold Schedule.expect Schedule.amountOf
  rw [duties_cell, Finset.sum_congr rfl fun d _ => amount_cell m c (some (b, j)) d]
  exact Finset.sum_singleton _ _
omit [FloatOps F] in
/-- The barrier's round: the three slots. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_cell, bigSep_congr fun d _ => payload_cell m c none d]
  exact bigSep_univ_eq_bigSepL [0, 1, 2] (by decide) (by decide) _
omit [FloatOps F] in
/-- A copy's round: its one payload. -/
theorem rest_copy (b : Bool) (j : Fin 3) :
    bigSep ((sched (F := F) m).duties (kcell (c, some (b, j))) 0 \ ∅) (fun d => (sched (F := F) m).payload (kcell (c, some (b, j))) 0 d)
      = payOf m c (some (some (b, j))) 0 := by
  rw [Finset.sdiff_empty, duties_cell, bigSep_congr fun d _ => payload_cell m c (some (b, j)) d]
  exact bigSep_singleton
end Sched

/-! ## What each device owes at launch; the levels -/

/-- The blocks still to send, and the barriers still to signal: the next one is the last summand. -/
def owedSends (c : Dev nD) : List (Fin 3) → CellTallies nD τ sig Unit
  | [] => 0
  | j :: l => owedSends c l + tallyAt (recvCell (fwd c j) j) () N
def owedSignals (c : Dev nD) : List (Fin 3) → CellTallies nD τ sig Unit
  | [] => owedSends c [0, 1, 2]
  | j :: l => owedSignals c l + tallyAt (barCell (fwd c j)) () 1
def O₀ (c : Dev nD) : CellTallies nD τ sig Unit := owedSignals c [0, 1, 2]

def L (g : GSem nD τ sig) : Finset Unit := if g.1.2 = .tc then {()} else ∅
def lvOf : Option CK → ℕ
  | some none => 1
  | some (some (true, _)) => 2
  | _ => 0
/-- Barriers at 1, receive counters at 2, everything else at 0. -/
def lv (g : GSem nD τ sig) (_ : Unit) : ℕ := lvOf (kindOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = lvOf (some k) := by unfold lv; rw [kindOf_csem]

theorem add_tally_pos {O : CellTallies nD τ sig Unit} {g g' : GSem nD τ sig} {n : ℕ} {u : Unit}
    (h : 0 < (O + tallyAt g' () n) g u) : 0 < O g u ∨ g = g' := by
  rw [Pi.add_apply, Finsupp.add_apply, tallyAt_apply] at h
  by_cases hg : g = g'
  · exact Or.inr hg
  · rw [if_neg fun h' => hg h'.1] at h; exact Or.inl h

theorem owedSends_pos {c : Dev nD} {g : GSem nD τ sig} {u : Unit} :
    ∀ l : List (Fin 3), 0 < owedSends c l g u → ∃ j, g = recvCell (fwd c j) j
  | [], h => absurd h (Nat.lt_irrefl 0)
  | j :: l, h => (add_tally_pos h).elim (owedSends_pos l) fun hg => ⟨j, hg⟩
theorem owedSignals_pos {c : Dev nD} {g : GSem nD τ sig} {u : Unit} :
    ∀ l : List (Fin 3), 0 < owedSignals c l g u → (∃ j, g = recvCell (fwd c j) j) ∨ ∃ j, g = barCell (fwd c j)
  | [], h => Or.inl (owedSends_pos [0, 1, 2] h)
  | j :: l, h => (add_tally_pos h).elim (owedSignals_pos l) fun hg => Or.inr ⟨j, hg⟩

omit [FloatOps F] in
/-- A wait below everything owed: at a counter of level 0, whatever of the launch's debt is left. -/
theorem mayWait_low (c : Dev nD) (q : SemLoc sig) (hq : lvOf (kindOf q) = 0) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by rcases owedSignals_pos _ hg with ⟨j, rfl⟩ | ⟨j, rfl⟩ <;> exact Finset.mem_singleton_self _)
      (fun p hp => by rw [Finset.mem_singleton.mp hp]; exact le_of_eq hq)
      (fun g u hg => by
        rcases owedSignals_pos _ hg with ⟨j, rfl⟩ | ⟨j, rfl⟩ <;> rw [lv_cell]
        · exact Nat.two_pos
        · exact Nat.one_pos)
  · rw [MayWait_zero]; iintro -; iempintro

omit [FloatOps F] in
/-- At its barrier a device owes its blocks only, and receive counters are above barriers. -/
theorem mayWait_bar (c : Dev nD) :
    (levAts L lv : sProp 𝕄) ⊢ MayWait (c : Thread nD τ) (.reg barS) () (owedSends c [0, 1, 2]) :=
  MayOwe.of_cut (L := L) (lev := lv) 1 (fun p hp => by rw [Finset.mem_singleton.mp hp, L_tc]; exact Finset.mem_singleton_self _)
    (fun g u hg => by obtain ⟨j, rfl⟩ := owedSends_pos _ hg; exact Finset.mem_singleton_self _)
    (fun p hp => by rw [Finset.mem_singleton.mp hp]; exact le_of_eq (lv_cell c none ()))
    (fun g u hg => by obtain ⟨j, rfl⟩ := owedSends_pos _ hg; rw [lv_cell]; exact Nat.lt_succ_self 1)

/-! ## What a device starts from -/

/-- All the cells' invariants, under the names `K`, and that every cell is at the start. -/
def records (K : Dev nD × CK → ℕ) : sProp 𝕄 :=
  iprop((bigSep Finset.univ fun ck : Dev nD × CK => cellInv ER (sched m) (K ck) (kcell ck))
    ∗ bigSep Finset.univ fun ck : Dev nD × CK => reached ER (kcell ck) 0)

instance records_persistent (K : Dev nD × CK → ℕ) : BI.Persistent (records m K) := by unfold records; infer_instance

omit [FloatOps F] in
theorem inv_at (K : Dev nD × CK → ℕ) (ck : Dev nD × CK) : (records m K : sProp 𝕄) ⊢ cellInv ER (sched m) (K ck) (kcell ck) := by
  unfold records
  exact sep_elim_left.trans (bigSep_elim (Finset.mem_univ ck))
omit [FloatOps F] in
theorem reached_at (K : Dev nD × CK → ℕ) (ck : Dev nD × CK) : (records m K : sProp 𝕄) ⊢ reached ER (kcell ck) 0 := by
  unfold records
  exact sep_elim_right.trans (bigSep_elim (Finset.mem_univ ck))

/-- The tokens device `c` pays with for its `j`-th block: the signal that lets the device `j + 1` ahead of it have its
    slot, the block's landing, the block's leaving. -/
def payToks (c : Dev nD) (j : Fin 3) : sProp 𝕄 :=
  iprop(dutyTok ER (barCell (fwd c j)) 0 j.rev ∗ dutyTok ER (recvCell (fwd c j) j) 0 0 ∗ dutyTok ER (sendCell c j) 0 0)

/-- A cell of `c`'s at the start of the round. -/
abbrev pos0 (c : Dev nD) (k : CK) : sProp 𝕄 := atPos ER (kcell (c, k)) 0 ∅ 0

/-- The ghost state device `c` starts from. -/
def ghost (K : Dev nD × CK → ℕ) (c : Dev nD) : sProp 𝕄 :=
  iprop(records m K ∗ (bigSep Finset.univ fun k : CK => pos0 c k) ∗ bigSep Finset.univ fun j : Fin 3 => payToks c j)

end Cert.Proof

end
-- ==== Proof.Values.lean ====
/-
# What the kernel writes, step by step

The result's 2048 columns are worked on in four bands of 512. A band starts as the product of this device's own block
with its rows of `w` (step 0), and each of the three received blocks adds its product to it (steps 1 to 3). The four
bands together are `summed`; the activation is then applied to four bands of 256 rows, which gives `out`.
Everything here is over any float values.
-/
module

public import proofs.«01_k».proof.Proof.Mesh
public import proofs.«01_k».proof.Proof.Gen.KernelIdeal.Skeleton
public import Idealize.ShloMosaic.Lib.Pointwise.Index

@[expose] public section

noncomputable section

namespace Cert.Proof

open Cert.KernelIdeal Cert.KernelIdeal.Gen
open Idealize.ShloMosaic Idealize.ShloMosaic.TcCoe
open Cert.Proof.Windows

variable {F : FTy → Type} [FloatOps F]

/-- Where a band of 512 columns of a block of `w` lies in the block. -/
def bandIx (n : Fin 4) (x : S1x1024x512.Idx) : S1024x2048.Idx :=
  ix2 (x 1) ⟨512 * n.val + (x 2).val, by have h : (x 2).val < 512 := (x 2).isLt; have := n.isLt; omega⟩

/-- That band, as it is loaded. -/
def wBand (n : Fin 4) (W : S1024x2048.Idx → Elt F .f32) : S1x1024x512.Idx → Elt F .f32 := fun x => W (bandIx n x)

/-- The product that starts a band; the product added to a band; the activation of 256 rows: as the kernel computes
    them. -/
abbrev startTile (A : S1024x1024.Idx → Elt F .f32) (B : S1x1024x512.Idx → Elt F .f32) : S1024x512.Idx → Elt F .f32 := k0_pay1 A B
abbrev addTile (A : S1024x1024.Idx → Elt F .f32) (B : S1x1024x512.Idx → Elt F .f32) (o : S1024x512.Idx → Elt F .f32) :
    S1024x512.Idx → Elt F .f32 := k0_pay5 A B o
abbrev actRows (v : S256x2048.Idx → Elt F .f32) : S256x2048.Idx → Elt F .f32 := k0_pay21 v

variable (m : (ℓ : Loc nD τ sig) → Buf (Elt F) ℓ) (c : Dev nD)

/-- The two operands of step `s`. -/
def opX (s : Fin 4) : S1024x1024.Idx → Elt F .f32 := xBlk m (src c s) c
def opW (s : Fin 4) : S1024x2048.Idx → Elt F .f32 := wBlk m c (src c s)

/-- Band `n` after step `s`. -/
def tile (n : Fin 4) : ℕ → S1024x512.Idx → Elt F .f32
  | 0 => startTile (opX m c 0) (wBand n (opW m c 0))
  | s + 1 => addTile (opX m c (Fin.ofNat 4 (s + 1))) (wBand n (opW m c (Fin.ofNat 4 (s + 1)))) (tile n s)

/-- The band of columns and the band of rows an element of the result is in. -/
def colBand (i : S1024x2048.Idx) : Fin 4 := ⟨(i 1).val / 512, by have h : (i 1).val < 2048 := (i 1).isLt; omega⟩
def rowBand (i : S1024x2048.Idx) : Fin 4 := ⟨(i 0).val / 256, by have h : (i 0).val < 1024 := (i 0).isLt; omega⟩
/-- Where in its band it is. -/
def inCol (i : S1024x2048.Idx) : S1024x512.Idx := ix2 (i 0) ⟨(i 1).val % 512, Nat.mod_lt _ (by decide)⟩
def inRow (i : S1024x2048.Idx) : S256x2048.Idx := ix2 ⟨(i 0).val % 256, Nat.mod_lt _ (by decide)⟩ (i 1)

/-- All the bands after step `s`. -/
def bands (s : ℕ) : S1024x2048.Idx → Elt F .f32 := fun i => tile m c (colBand i) s (inCol i)
/-- The sum of the four products. -/
abbrev summed : S1024x2048.Idx → Elt F .f32 := bands m c 3
/-- The result. -/
def out : S1024x2048.Idx → Elt F .f32 := fun i => actRows (fun x => summed m c ((rowRect (rowBand i)).emb x)) (inRow i)

omit [FloatOps F] in
theorem idx2_ext {a b : ℕ} {x y : (⟨2, ![a, b]⟩ : Shape).Idx} (h0 : (x 0).val = (y 0).val) (h1 : (x 1).val = (y 1).val) : x = y :=
  funext fun i => match i with
    | ⟨0, _⟩ => Fin.ext h0
    | ⟨1, _⟩ => Fin.ext h1

theorem col_emb (n : Fin 4) (x : S1024x512.Idx) :
    (((colRect n).emb x) 0).val = (x 0).val ∧ (((colRect n).emb x) 1).val = 512 * n.val + (x 1).val := by
  refine ⟨?_, ?_⟩
  · show 0 + 1 * (x 0).val = _; omega
  · show 512 * n.val + 1 * (x 1).val = _; omega

theorem row_emb (k : Fin 4) (x : S256x2048.Idx) :
    (((rowRect k).emb x) 0).val = 256 * k.val + (x 0).val ∧ (((rowRect k).emb x) 1).val = (x 1).val := by
  refine ⟨?_, ?_⟩
  · show 256 * k.val + 1 * (x 0).val = _; omega
  · show 0 + 1 * (x 1).val = _; omega

theorem colBand_emb (n : Fin 4) (x : S1024x512.Idx) : colBand ((colRect n).emb x) = n := by
  have h := (col_emb n x).2
  have hx : (x 1).val < 512 := (x 1).isLt
  refine Fin.ext ?_
  show (((colRect n).emb x) 1).val / 512 = n.val
  rw [h]; omega

theorem inCol_emb (n : Fin 4) (x : S1024x512.Idx) : inCol ((colRect n).emb x) = x := by
  have h := col_emb n x
  have hx : (x 1).val < 512 := (x 1).isLt
  refine idx2_ext h.1 ?_
  show (((colRect n).emb x) 1).val % 512 = (x 1).val
  rw [h.2]; omega

theorem rowBand_emb (k : Fin 4) (x : S256x2048.Idx) : rowBand ((rowRect k).emb x) = k := by
  have h := (row_emb k x).1
  have hx : (x 0).val < 256 := (x 0).isLt
  refine Fin.ext ?_
  show (((rowRect k).emb x) 0).val / 256 = k.val
  rw [h]; omega

theorem inRow_emb (k : Fin 4) (x : S256x2048.Idx) : inRow ((rowRect k).emb x) = x := by
  have h := row_emb k x
  have hx : (x 0).val < 256 := (x 0).isLt
  refine idx2_ext ?_ h.2
  show (((rowRect k).emb x) 0).val % 256 = (x 0).val
  rw [h.1]; omega

/-- A band of columns of `bands` is the band; -/
theorem bands_col (s : ℕ) (n : Fin 4) : (fun x => bands m c s ((colRect n).emb x)) = tile m c n s := by
  funext x; show tile m c (colBand _) s (inCol _) = _; rw [colBand_emb, inCol_emb]
/-- a band of rows of the result is the activation of those rows. -/
theorem out_row (k : Fin 4) : (fun x => out m c ((rowRect k).emb x)) = actRows fun x => summed m c ((rowRect k).emb x) := by
  funext x; show actRows (fun y => summed m c ((rowRect (rowBand _)).emb y)) (inRow _) = _; rw [rowBand_emb, inRow_emb]

theorem mem_colRect (n : Fin 4) (i : S1024x2048.Idx) : i ∈ (colRect n).set ↔ colBand i = n := by
  rw [Rect.mem_set_unit, Fin.forall_fin_two, Fin.ext_iff]
  have h0 : (i 0).val < 1024 := (i 0).isLt
  show (0 ≤ (i 0).val ∧ (i 0).val < 0 + 1024) ∧ (512 * n.val ≤ (i 1).val ∧ (i 1).val < 512 * n.val + 512) ↔ (i 1).val / 512 = n.val
  omega

theorem mem_rowRect (k : Fin 4) (i : S1024x2048.Idx) : i ∈ (rowRect k).set ↔ rowBand i = k := by
  rw [Rect.mem_set_unit, Fin.forall_fin_two, Fin.ext_iff]
  have h1 : (i 1).val < 2048 := (i 1).isLt
  show (256 * k.val ≤ (i 0).val ∧ (i 0).val < 256 * k.val + 256) ∧ (0 ≤ (i 1).val ∧ (i 1).val < 0 + 2048) ↔ (i 0).val / 256 = k.val
  omega

/-- The block of rows an element of an argument is in; the slot an element of a ring is in. -/
def xBand (i : S4096x1024.Idx) : Fin 4 := ⟨(i 0).val / 1024, by have h : (i 0).val < 4096 := (i 0).isLt; omega⟩
def wBandOf (i : S4096x2048.Idx) : Fin 4 := ⟨(i 0).val / 1024, by have h : (i 0).val < 4096 := (i 0).isLt; omega⟩

theorem mem_xRect (r : Fin 4) (i : S4096x1024.Idx) : i ∈ (xRect r).set ↔ xBand i = r := by
  rw [Rect.mem_set_unit, Fin.forall_fin_two, Fin.ext_iff]
  have h1 : (i 1).val < 1024 := (i 1).isLt
  show (1024 * r.val ≤ (i 0).val ∧ (i 0).val < 1024 * r.val + 1024) ∧ (0 ≤ (i 1).val ∧ (i 1).val < 0 + 1024) ↔ (i 0).val / 1024 = r.val
  omega

theorem mem_wRect (r : Fin 4) (i : S4096x2048.Idx) : i ∈ (wRect r).set ↔ wBandOf i = r := by
  rw [Rect.mem_set_unit, Fin.forall_fin_two, Fin.ext_iff]
  have h1 : (i 1).val < 2048 := (i 1).isLt
  show (1024 * r.val ≤ (i 0).val ∧ (i 0).val < 1024 * r.val + 1024) ∧ (0 ≤ (i 1).val ∧ (i 1).val < 0 + 2048) ↔ (i 0).val / 1024 = r.val
  omega

def ringSlot (i : S3x1024x1024.Idx) : Fin 3 := ⟨(i 0).val, (i 0).isLt⟩
def wringSlot (i : S2x1024x2048.Idx) : Fin 2 := ⟨(i 0).val, (i 0).isLt⟩

theorem mem_ringRect (j : Fin 3) (i : S3x1024x1024.Idx) : i ∈ (ringRect j).set ↔ ringSlot i = j := by
  rw [Rect.mem_set_unit, Fin.forall_fin_succ, Fin.forall_fin_two, Fin.ext_iff]
  have h1 : (i 1).val < 1024 := (i 1).isLt
  have h2 : (i 2).val < 1024 := (i 2).isLt
  show (j.val ≤ (i 0).val ∧ (i 0).val < j.val + 1) ∧ (0 ≤ (i 1).val ∧ (i 1).val < 0 + 1024) ∧ (0 ≤ (i 2).val ∧ (i 2).val < 0 + 1024) ↔ (i 0).val = j.val
  omega

theorem mem_wringRect (b : Fin 2) (i : S2x1024x2048.Idx) : i ∈ (wringRect b).set ↔ wringSlot i = b := by
  rw [Rect.mem_set_unit, Fin.forall_fin_succ, Fin.forall_fin_two, Fin.ext_iff]
  have h1 : (i 1).val < 1024 := (i 1).isLt
  have h2 : (i 2).val < 2048 := (i 2).isLt
  show (b.val ≤ (i 0).val ∧ (i 0).val < b.val + 1) ∧ (0 ≤ (i 1).val ∧ (i 1).val < 0 + 1024) ∧ (0 ≤ (i 2).val ∧ (i 2).val < 0 + 2048) ↔ (i 0).val = b.val
  omega

/-- The band of a slot, found in the block the slot holds. -/
theorem band_in_slot (b : Fin 2) (n : Fin 4) {off : Fin 3 → ℕ} (hoff : off = ![b.val, 0, 512 * n.val])
    {inb : ∀ a, off a + S1x1024x512.size a ≤ S2x1024x2048.size a} (x : S1x1024x512.Idx) :
    (wringRect b).emb (Shape.reshapeEquiv squeezes_S1x1024x2048_S1024x2048.numel_eq (bandIx n x))
      = (Rect.unit (s := S2x1024x2048) off S1x1024x512.size inb).emb x := by
  subst hoff
  have h0 : (x 0).val = 0 := Nat.lt_one_iff.mp (x 0).isLt
  rw [show Shape.reshapeEquiv squeezes_S1x1024x2048_S1024x2048.numel_eq (bandIx n x) = Fin.cons ⟨0, Nat.one_pos⟩ (bandIx n x) from
    Shape.reshapeEquiv_cons_one _ _]
  refine Shape.idx3_ext ?_ ?_ ?_
  · show b.val + 1 * 0 = b.val + 1 * (x 0).val; rw [h0]
  · rfl
  · show 0 + 1 * (512 * n.val + (x 2).val) = 512 * n.val + 1 * (x 2).val; omega

end Cert.Proof

end
-- ==== Proof.Steps.lean ====
/-
# The protocol's steps on one device

One rule for each kind of step of the kernel that another device, or a copy engine, takes part in: a signal, the wait at
the barrier, a block sent, the wait for a block (to have left, or to have arrived), a local copy and its wait. Each
is stated once, for every block.
-/
module

public import proofs.«01_k».proof.Proof.Protocol
public import proofs.«01_k».proof.Proof.Values

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

local notation "𝕄" => MT nD τ sig Unit (Elt F) ℕ UU ℕ

abbrev 𝒱₀ : Variants := Variants.none
/-- Where the local copies' counters sit. -/
abbrev EC : UEmb Counters (MT nD τ sig Unit (Elt F) ℕ UU ℕ) := countersEmb

theorem mem_duties (m : (ℓ : Loc nD τ sig) → Buf (Elt F) ℓ) (c : Dev nD) (k : CK) (d : Fin 3) (h : d ∈ dutiesOf (some k)) :
    d ∈ (sched m).duties (kcell (c, k)) 0 := (duties_cell m c k).symm ▸ h

/-- Device `c` owes `O`, whatever it has waited on. -/
def obl (c : Dev nD) (O : CellTallies nD τ sig Unit) : sProp 𝕄 := iprop(∃ W, owes (c : Thread nD τ) O W)

variable (m : (ℓ : Loc nD τ sig) → Buf (Elt F) ℓ) (K : Dev nD × CK → ℕ) (c : Dev nD)
omit [FloatOps F] in
/-- What a device hands over with its signal to the device `j + 1` ahead, as the barrier there takes it. -/
theorem bar_intro (j : Fin 3) :
    iprop(someIn (c : Thread nD τ) (slot j.rev) ∗ reached ER (recvCell c j.rev) 0) ⊢ (sched (F := F) m).payload (barCell (fwd c j)) 0 j.rev := by
  rw [payload_cell m (fwd c j) none]
  show _ ⊢ barPay (fwd c j) j.rev
  unfold barPay; rw [fwd_rev]

variable {α : Type} {Q : α → sProp (MT nD τ sig Unit (Elt F) ℕ UU ℕ)} {k : PUnit → Prog (TpuEff nD τ sig (Elt F) Λ₀ (c : Thread nD τ).2) α}

/-- A signal to the device `j + 1` ahead: it hands over this device's slot that the other's block goes to. -/
theorem signal_step (j : Fin 3) (l : List (Fin 3)) {tgt : Dev nD} (ht : tgt = fwd c j) {n : ℕ} (hn : n = 1) :
    iprop(records m K ∗ dutyTok ER (barCell (fwd c j)) 0 j.rev ∗ someIn (c : Thread nD τ) (slot j.rev) ∗ obl c (owedSignals c (j :: l)))
      ⊢ iprop((obl c (owedSignals c l) -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (tgt : Thread nD τ) barS n) k) Q) := by
  subst ht; subst hn
  unfold obl
  iintro ⟨#HR, Ht, Hs, %W, HO⟩ Hk
  iapply (Rounds.wp_signal 𝒱₀ ER (sched m) (c : Thread nD τ) none (dst := (fwd c j : Thread nD τ)) (κ := K (fwd c j, none)) (r := 0)
      (d := j.rev) (mem_duties m (fwd c j) none j.rev (Finset.mem_univ _)) (amount_cell m (fwd c j) none j.rev) () (owedSignals c l) rfl (W := W)) $$ [HO Ht Hs]
  · isplitr; · iapply (inv_at m K (fwd c j, none)); iexact HR
    isplitl [HO]; · iexact HO
    isplitl [Ht]; · iexact Ht
    isplitl [Hs]
    · iapply (bar_intro m c j)
      isplitl [Hs]; · iexact Hs
      iapply (reached_at m K (c, some (true, j.rev))); iexact HR
    · iapply (reached_at m K (fwd c j, none)); iexact HR
  iintro HO
  iapply Hk; iexists W; iexact HO

/-- The wait at the barrier: the three slots this device's blocks go to. -/
theorem barrier_step {n : ℕ} (hn : n = 3) :
    iprop(records m K ∗ levAts L lv ∗ cred (tallyAt (barCell c) () 3) ∗ pos0 c none ∗ obl c (owedSends c [0, 1, 2]))
      ⊢ iprop((obl c (owedSends c [0, 1, 2]) ∗ semVal (barCell c) 0 ∗ barPay c 0 ∗ barPay c 1 ∗ barPay c 2
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold obl
  iintro ⟨#HR, #HL, Hc, Hat, %W, HO⟩ Hk
  iapply (Rounds.wp_wait_rest_token 𝒱₀ ER (sched m) (c : Thread nD τ) none (κ := K (c, none))
      (wpE_semWait_eq 𝒱₀ (c : Thread nD τ) none Set.univ) (Set.mem_univ _) () (O := owedSends c [0, 1, 2]) (W := W) (R := 0) (m := 0) (T := ∅)
      (by rw [expect_bar])) $$ [Hc HO Hat]
  · isplitr; · iapply (inv_at m K (c, none)); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iapply (inv_at m K (c, none)); iexact HR
    iexact Hat
  iapply Hk
  isplitl [HO]; · iexists _; iexact HO
  isplitl [Hz] <;> iassumption

/-- Sending the `j`-th block: the rows go, to come back when they have left; the slot goes, to reach the other device
    when they have landed. -/
theorem send_step (j : Fin 3) (l : List (Fin 3)) {tgt : Dev nD} (ht : tgt = fwd c j)
    {M : Memref sig .tc .hbm S1024x1024 .f32} (hM : M = xRow (fwd c j)) {D : Memref sig .tc .vmem S1024x1024 .f32} (hD : D = slot j)
    {hsc : _} {s r : DmaSem sig} (hs : s = sendS j) (hr : r = recvS j)
    {hsrc : M.view.WordExact} {hdst : D.view.WordExact} {hsem : DmaTarget.Typed .hbm (.dma r) (.remote (tgt : Thread nD τ) D (.dma s) hsc)} :
    iprop(records m K ∗ owns (c : Thread nD τ) (xRow (fwd c j)) fullShare (xBlk m c (fwd c j)) ∗ barPay c j
        ∗ obl c (owedSends c (j :: l)) ∗ dutyTok ER (sendCell c j) 0 0 ∗ dutyTok ER (recvCell (fwd c j) j) 0 0)
      ⊢ iprop((obl c (owedSends c l) ∗ cred (tallyAt (sendCell c j) () N)
          -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma M (.remote (tgt : Thread nD τ) D (.dma s) hsc) (.dma r) hsrc hdst hsem) k) Q) := by
  subst ht; subst hM; subst hD; subst hs; subst hr
  unfold obl barPay someIn owns
  iintro ⟨#HR, ⟨%fs, %hfs, Hs⟩, ⟨⟨%v, %fd, %hfd, Hd⟩, -⟩, ⟨%W, HO⟩, Ht, Ht'⟩ Hk
  iapply (Rounds.wp_send_pointsTo 𝒱₀ ER (sched m) (c : Thread nD τ) none (c' := (fwd c j : Thread nD τ)) (src := xRow (fwd c j)) (dst := slot j)
      (κ₁ := K (c, some (false, j))) (κ₂ := K (fwd c j, some (true, j))) (r₁ := 0) (r₂ := 0) (d₁ := 0) (d₂ := 0) (fs := fs) (fd := fd) (q := fullShare)
      (mem_duties m c (some (false, j)) 0 (Finset.mem_singleton_self _))
      (mem_duties m (fwd c j) (some (true, j)) 0 (Finset.mem_singleton_self _))
      () () N rfl (amount_cell m c (some (false, j)) 0) (amount_cell m (fwd c j) (some (true, j)) 0) (owedSends c l) rfl (W := W)
      (by
        rw [payload_cell m c (some (false, j))]
        exact owns_intro (c : Thread nD τ) (xRow (fwd c j)) fullShare fs _ hfs)
      (by
        rw [payload_cell m (fwd c j) (some (true, j))]
        exact owns_intro (fwd c j : Thread nD τ) (slot j) fullShare _ _
          (((View.read_write_univ (v := (slot j).view) fd _).trans hfs).trans (by rw [src_fwd]))))
    $$ [Hs Hd HO Ht Ht']
  · isplitr; · iapply (inv_at m K (c, some (false, j))); iexact HR
    isplitr; · iapply (inv_at m K (fwd c j, some (true, j))); iexact HR
    isplitl [Hs]; · iexact Hs
    isplitl [Hd]; · iexact Hd
    isplitl [HO]; · iexact HO
    isplitl [Ht]; · iexact Ht
    isplitr; · iapply (reached_at m K (c, some (false, j))); iexact HR
    isplitl [Ht']; · iexact Ht'
    iapply (reached_at m K (fwd c j, some (true, j))); iexact HR
  iintro ⟨Hc, HO⟩
  iapply Hk
  isplitl [HO]; · iexists W; iexact HO
  iexact Hc

/-- The wait for block `j`: to have left (`b = false`), or to have arrived. It gives what the copy hands over, and the
    counter back at zero. -/
theorem block_wait (b : Bool) (j : Fin 3) {sm : DmaSem sig} (hsm : SemLoc.dma sm = csem (some (b, j)))
    {sp sp' : Space} {s' : Shape} {e' : EltTy} {S : Memref sig .tc sp' s' e'} {D : Memref sig .tc sp S1024x1024 .f32}
    (hD : D.view.dmaCredit = N) {hsrc : S.view.WordExact} {hdst : D.view.WordExact} :
    iprop(records m K ∗ cred (tallyAt (kcell (c, some (b, j))) () N) ∗ pos0 c (some (b, j)) ∗ obl c 0)
      ⊢ iprop((obl c 0 ∗ semVal (kcell (c, some (b, j))) 0 ∗ payOf m c (some (some (b, j))) 0
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm S D hsrc hdst) k) Q) := by
  have hcell : (((c : Thread nD τ), SemLoc.dma sm) : GSem nD τ sig) = kcell (c, some (b, j)) := congrArg (Prod.mk (c : Thread nD τ)) hsm
  unfold obl pos0
  rw [← hcell]
  iintro ⟨#HR, Hc, Hat, %W, HO⟩ Hk
  iapply (Rounds.wp_wait_rest_token 𝒱₀ ER (sched m) (c : Thread nD τ) none (κ := K (c, some (b, j))) (sm := .dma sm)
      (wpE_waitDma2_eq 𝒱₀ (c : Thread nD τ) none Set.univ) (Set.mem_univ _) () (O := 0) (W := W) (R := 0) (m := 0) (T := ∅)
      (by rw [Nat.zero_add, hcell, expect_copy]; exact hD)) $$ [Hc HO Hat]
  · isplitr; · rw [hcell]; iapply (inv_at m K (c, some (b, j))); iexact HR
    isplitl [Hc]; · rw [hD]; iexact Hc
    isplitl [HO]; · iexact HO
    isplitr; · rw [MayWait_zero]; iempintro
    iexact Hat
  iintro ⟨HO, Hat, -, Hpay⟩
  rw [hcell]
  ihave Hp := (Entails.of_eq (rest_copy m c b j)) $$ Hpay
  imod (Rounds.cell_close ER (sched m) (Set.mem_univ (K (c, some (b, j)))) (fun h => h) (R := 0 + 1) (duties_later m (kcell (c, some (b, j))))) $$ [Hat] with Hz
  · isplitr; · iapply (inv_at m K (c, some (b, j))); iexact HR
    iexact Hat
  iapply Hk
  isplitl [HO]; · iexists _; iexact HO
  isplitl [Hz] <;> iassumption

/-- The wait for a local copy: what its landing gives, and its counter at zero. -/
theorem local_wait {sm : DmaSem sig} {sp sp' : Space} {s s' : Shape} {e e' : EltTy} {S : Memref sig .tc sp' s' e'} {D : Memref sig .tc sp s e}
    {hsrc : S.view.WordExact} {hdst : D.view.WordExact} {N : ℕ} (hN : D.view.dmaCredit = N) {P : sProp 𝕄} :
    iprop(Transfers.Flight EC (c : Thread nD τ) (.dma sm) () N P ∗ obl c 0)
      ⊢ iprop((obl c 0 ∗ semVal ((c : Thread nD τ), .dma sm) 0 ∗ P
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sm S D hsrc hdst) k) Q) := by
  unfold obl
  iintro ⟨HF, %W, HO⟩ Hk
  iapply (Transfers.wp_waitLocal EC 𝒱₀ (c : Thread nD τ) none () hN (W := W)) $$ [HF HO]
  · isplitl [HF] <;> iassumption
  iintro ⟨HP, Hz, HO⟩
  iapply Hk
  isplitl [HO]; · iexists _; iexact HO
  isplitl [Hz] <;> iassumption

end Cert.Proof

end
-- ==== Proof.Tiles.lean ====
/-
# The arithmetic on one device

One band of columns started; one band added to; one band of rows put through the activation: each is a short run of
loads and one store, stated once for every band and step, and then for the four bands together.
-/
module

public import proofs.«01_k».proof.Proof.Steps

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

local notation "𝕄" => MT nD τ sig Unit (Elt F) ℕ UU ℕ

/-! ## The programs -/

theorem bandRect_inb (b : Fin 2) (n : Fin 4) :
    ∀ a, (![b.val, 0, 512 * n.val] : Fin 3 → Nat) a + S1x1024x512.size a ≤ S2x1024x2048.size a := by
  revert b n; decide
abbrev bandRect (b : Fin 2) (n : Fin 4) : Rect S2x1024x2048 :=
  Rect.unit (s := S2x1024x2048) ![b.val, 0, 512 * n.val] S1x1024x512.size (bandRect_inb b n)
abbrev fullRect : Rect S1024x1024 := Rect.unit (s := S1024x1024) ![0, 0] S1024x1024.size inb_S1024x1024_S1024x1024_0_0

/-- Band `n` started from the block in `M` and slot `b` of the ring of `w` blocks. -/
def runStart (M : Memref sig .tc .vmem S1024x1024 .f32) (b : Fin 2) (n : Fin 4) (k : Prog (TpuEff nD τ sig (Elt F) Λ₀ .tc) PUnit) :
    Prog (TpuEff nD τ sig (Elt F) Λ₀ .tc) PUnit :=
  .op (.load M fullRect.toLoadRect (View.loadsAt_vmem h_S1024x1024)) fun A =>
  .op (.load wringM (bandRect b n).toLoadRect (View.loadsAt_vmem h_S1x1024x512)) fun B =>
  .op (.load outM (colRect n).toLoadRect (View.loadsAt_vmem h_S1024x512)) fun _ =>
  .op (.store outM (colRect n) (startTile A B) Finset.univ (View.stores_vmem_bits_univ h_S1024x512 rfl) (.inl rfl)) fun _ => k

/-- Band `n` added to. -/
def runAdd (M : Memref sig .tc .vmem S1024x1024 .f32) (b : Fin 2) (n : Fin 4) (k : Prog (TpuEff nD τ sig (Elt F) Λ₀ .tc) PUnit) :
    Prog (TpuEff nD τ sig (Elt F) Λ₀ .tc) PUnit :=
  .op (.load M fullRect.toLoadRect (View.loadsAt_vmem h_S1024x1024)) fun A =>
  .op (.load wringM (bandRect b n).toLoadRect (View.loadsAt_vmem h_S1x1024x512)) fun B =>
  .op (.load outM (colRect n).toLoadRect (View.loadsAt_vmem h_S1024x512)) fun o =>
  .op (.load outM (colRect n).toLoadRect (View.loadsAt_vmem h_S1024x512)) fun _ =>
  .op (.store outM (colRect n) (addTile A B o) Finset.univ (View.stores_vmem_bits_univ h_S1024x512 rfl) (.inl rfl)) fun _ => k

/-- The activation of band `r` of rows. -/
def runAct (r : Fin 4) (k : Prog (TpuEff nD τ sig (Elt F) Λ₀ .tc) PUnit) : Prog (TpuEff nD τ sig (Elt F) Λ₀ .tc) PUnit :=
  .op (.load outM (rowRect r).toLoadRect (View.loadsAt_vmem h_S256x2048)) fun v =>
  .op (.load outM (rowRect r).toLoadRect (View.loadsAt_vmem h_S256x2048)) fun _ =>
  .op (.store outM (rowRect r) (actRows v) Finset.univ (View.stores_vmem_bits_univ h_S256x2048 rfl) (.inl rfl)) fun _ => k

/-- The four bands, one after another. -/
def four (f : Fin 4 → Prog (TpuEff nD τ sig (Elt F) Λ₀ .tc) PUnit → Prog (TpuEff nD τ sig (Elt F) Λ₀ .tc) PUnit)
    (k : Prog (TpuEff nD τ sig (Elt F) Λ₀ .tc) PUnit) : Prog (TpuEff nD τ sig (Elt F) Λ₀ .tc) PUnit :=
  f 0 (f 1 (f 2 (f 3 k)))

/-! ## Their rules -/

variable (c : Dev nD) {Q : PUnit → sProp (MT nD τ sig Unit (Elt F) ℕ UU ℕ)} (k : Prog (TpuEff nD τ sig (Elt F) Λ₀ .tc) PUnit)

theorem full_idx (x : S1024x1024.Idx) : fullRect.toLoadRect.idx x = x := by
  refine idx2_ext ?_ ?_
  · show 0 + 1 * (x 0).val = _; omega
  · show 0 + 1 * (x 1).val = _; omega

/-- Loading all of a block is reading it. -/
theorem load_block {M : Memref sig .tc .vmem S1024x1024 .f32} {hl : M.view.LoadsAt fullRect.toLoadRect} {A : S1024x1024.Idx → Elt F .f32}
    {k : (S1024x1024.Idx → Elt F .f32) → Prog (TpuEff nD τ sig (Elt F) Λ₀ .tc) PUnit} :
    (owns (c : Thread nD τ) M fullShare A : sProp 𝕄)
      ⊢ iprop((owns (c : Thread nD τ) M fullShare A -∗ wp frame (wpE (defs₀ (F := F)) 𝒱₀ (c : Thread nD τ) none) Set.univ (k A) Q)
        -∗ wp frame (wpE (defs₀ (F := F)) 𝒱₀ (c : Thread nD τ) none) Set.univ (.op (.load M fullRect.toLoadRect hl) k) Q) := by
  have h : (fun x => A (fullRect.toLoadRect.idx x)) = A := funext fun x => congrArg A (full_idx x)
  have h0 := load_of (defs := defs₀ (F := F)) (Q := Q) 𝒱₀ (c : Thread nD τ) (m := M) (r := fullRect.toLoadRect) (hl := hl) (k := k) (q := fullShare) (v := A)
  rw [show (fun x => A (fullRect.toLoadRect.idx x)) = A from h] at h0
  exact h0

theorem start_step (M : Memref sig .tc .vmem S1024x1024 .f32) (b : Fin 2) (n : Fin 4) (A : S1024x1024.Idx → Elt F .f32)
    (W : S1024x2048.Idx → Elt F .f32) :
    iprop(owns (c : Thread nD τ) M fullShare A ∗ owns (c : Thread nD τ) (wslot b) fullShare W ∗ someIn (c : Thread nD τ) (col n))
      ⊢ (iprop((owns (c : Thread nD τ) M fullShare A ∗ owns (c : Thread nD τ) (wslot b) fullShare W
            ∗ owns (c : Thread nD τ) (col n) fullShare (startTile A (wBand n W))
          -∗ wp frame (wpE (defs₀ (F := F)) 𝒱₀ (c : Thread nD τ) none) Set.univ k Q)
        -∗ wp frame (wpE (defs₀ (F := F)) 𝒱₀ (c : Thread nD τ) none) Set.univ (runStart M b n k) Q) : sProp 𝕄) := by
  unfold someIn runStart
  iintro ⟨HA, HW, %v, Ho⟩ Hk
  iapply (load_block c) $$ HA; iintro HA
  iapply (load_in 𝒱₀ (c : Thread nD τ) (bandIx n) (band_in_slot b n rfl)) $$ HW; iintro HW
  iapply (load_rect 𝒱₀ (c : Thread nD τ)) $$ Ho; iintro Ho
  iapply (store_rect 𝒱₀ (c : Thread nD τ)) $$ Ho; iintro Ho
  iapply Hk
  isplitl [HA]; · iexact HA
  isplitl [HW]; · iexact HW
  iexact Ho

theorem add_step (M : Memref sig .tc .vmem S1024x1024 .f32) (b : Fin 2) (n : Fin 4) (A : S1024x1024.Idx → Elt F .f32)
    (W : S1024x2048.Idx → Elt F .f32) (o : S1024x512.Idx → Elt F .f32) :
    iprop(owns (c : Thread nD τ) M fullShare A ∗ owns (c : Thread nD τ) (wslot b) fullShare W ∗ owns (c : Thread nD τ) (col n) fullShare o)
      ⊢ (iprop((owns (c : Thread nD τ) M fullShare A ∗ owns (c : Thread nD τ) (wslot b) fullShare W
            ∗ owns (c : Thread nD τ) (col n) fullShare (addTile A (wBand n W) o)
          -∗ wp frame (wpE (defs₀ (F := F)) 𝒱₀ (c : Thread nD τ) none) Set.univ k Q)
        -∗ wp frame (wpE (defs₀ (F := F)) 𝒱₀ (c : Thread nD τ) none) Set.univ (runAdd M b n k) Q) : sProp 𝕄) := by
  unfold runAdd
  iintro ⟨HA, HW, Ho⟩ Hk
  iapply (load_block c) $$ HA; iintro HA
  iapply (load_in 𝒱₀ (c : Thread nD τ) (bandIx n) (band_in_slot b n rfl)) $$ HW; iintro HW
  iapply (load_rect 𝒱₀ (c : Thread nD τ)) $$ Ho; iintro Ho
  iapply (load_rect 𝒱₀ (c : Thread nD τ)) $$ Ho; iintro Ho
  iapply (store_rect 𝒱₀ (c : Thread nD τ)) $$ Ho; iintro Ho
  iapply Hk
  isplitl [HA]; · iexact HA
  isplitl [HW]; · iexact HW
  iexact Ho

theorem act_step (r : Fin 4) (v : S256x2048.Idx → Elt F .f32) :
    owns (c : Thread nD τ) (row r) fullShare v
      ⊢ (iprop((owns (c : Thread nD τ) (row r) fullShare (actRows v) -∗ wp frame (wpE (defs₀ (F := F)) 𝒱₀ (c : Thread nD τ) none) Set.univ k Q)
        -∗ wp frame (wpE (defs₀ (F := F)) 𝒱₀ (c : Thread nD τ) none) Set.univ (runAct r k) Q) : sProp 𝕄) := by
  unfold runAct
  iintro Ho Hk
  iapply (load_rect 𝒱₀ (c : Thread nD τ)) $$ Ho; iintro Ho
  iapply (load_rect 𝒱₀ (c : Thread nD τ)) $$ Ho; iintro Ho
  iapply (store_rect 𝒱₀ (c : Thread nD τ)) $$ Ho; iintro Ho
  iapply Hk; iexact Ho

/-- Four runs, each turning its own part `P n` into `R n` next to what all share, turn all of them. -/
theorem four_step (f : Fin 4 → Prog (TpuEff nD τ sig (Elt F) Λ₀ .tc) PUnit → Prog (TpuEff nD τ sig (Elt F) Λ₀ .tc) PUnit)
    (S : sProp 𝕄) (P R : Fin 4 → sProp 𝕄)
    (h : ∀ n k, iprop(S ∗ P n) ⊢ iprop((S ∗ R n -∗ wp frame (wpE (defs₀ (F := F)) 𝒱₀ (c : Thread nD τ) none) Set.univ k Q)
        -∗ wp frame (wpE (defs₀ (F := F)) 𝒱₀ (c : Thread nD τ) none) Set.univ (f n k) Q)) :
    iprop(S ∗ bigSep Finset.univ P)
      ⊢ iprop((S ∗ bigSep Finset.univ R -∗ wp frame (wpE (defs₀ (F := F)) 𝒱₀ (c : Thread nD τ) none) Set.univ k Q)
        -∗ wp frame (wpE (defs₀ (F := F)) 𝒱₀ (c : Thread nD τ) none) Set.univ (four f k) Q) := by
  rw [bigSep_univ_eq_bigSepL [0, 1, 2, 3] (by decide) (by decide) P, bigSep_univ_eq_bigSepL [0, 1, 2, 3] (by decide) (by decide) R]
  unfold four
  show iprop(S ∗ P 0 ∗ P 1 ∗ P 2 ∗ P 3) ⊢ iprop((S ∗ R 0 ∗ R 1 ∗ R 2 ∗ R 3 -∗ _) -∗ _)
  iintro ⟨HS, H0, H1, H2, H3⟩ Hk
  iapply (h 0 _) $$ [HS H0]; · isplitl [HS] <;> iassumption
  iintro ⟨HS, H0⟩
  iapply (h 1 _) $$ [HS H1]; · isplitl [HS] <;> iassumption
  iintro ⟨HS, H1⟩
  iapply (h 2 _) $$ [HS H2]; · isplitl [HS] <;> iassumption
  iintro ⟨HS, H2⟩
  iapply (h 3 _) $$ [HS H3]; · isplitl [HS] <;> iassumption
  iintro ⟨HS, H3⟩
  iapply Hk
  isplitl [HS]; · iexact HS
  isplitl [H0]; · iexact H0
  isplitl [H1]; · iexact H1
  isplitl [H2] <;> iassumption

/-! ## A step of the kernel: its four bands -/

variable (m : (ℓ : Loc nD τ sig) → Buf (Elt F) ℓ)

/-- The bands of the result's buffer after step `s`. -/
def bandsHeld (s : ℕ) : sProp 𝕄 := bigSep Finset.univ fun n : Fin 4 => owns (c : Thread nD τ) (col n) fullShare (tile m c n s)

/-- Step 0: the bands started from this device's own block. -/
theorem first_step (M : Memref sig .tc .vmem S1024x1024 .f32) (b : Fin 2) :
    iprop((owns (c : Thread nD τ) M fullShare (opX m c 0) ∗ owns (c : Thread nD τ) (wslot b) fullShare (opW m c 0))
        ∗ bigSep Finset.univ fun n : Fin 4 => someIn (c : Thread nD τ) (col n))
      ⊢ (iprop(((owns (c : Thread nD τ) M fullShare (opX m c 0) ∗ owns (c : Thread nD τ) (wslot b) fullShare (opW m c 0)) ∗ bandsHeld c m 0
          -∗ wp frame (wpE (defs₀ (F := F)) 𝒱₀ (c : Thread nD τ) none) Set.univ k Q)
        -∗ wp frame (wpE (defs₀ (F := F)) 𝒱₀ (c : Thread nD τ) none) Set.univ (four (runStart M b) k) Q) : sProp 𝕄) := by
  unfold bandsHeld
  refine four_step c k (runStart M b) _ _ _ fun n k => ?_
  iintro ⟨⟨HA, HW⟩, Ho⟩ Hk
  iapply (start_step c k M b n (opX m c 0) (opW m c 0)) $$ [HA HW Ho]
  · isplitl [HA]; · iexact HA
    isplitl [HW] <;> iassumption
  iintro ⟨HA, HW, Ho⟩
  iapply Hk
  isplitl [HA HW]
  · isplitl [HA] <;> iassumption
  iexact Ho

/-- A later step: every band added to. -/
theorem later_step (M : Memref sig .tc .vmem S1024x1024 .f32) (b : Fin 2) (s : ℕ) :
    iprop((owns (c : Thread nD τ) M fullShare (opX m c (Fin.ofNat 4 (s + 1)))
          ∗ owns (c : Thread nD τ) (wslot b) fullShare (opW m c (Fin.ofNat 4 (s + 1)))) ∗ bandsHeld c m s)
      ⊢ (iprop(((owns (c : Thread nD τ) M fullShare (opX m c (Fin.ofNat 4 (s + 1)))
            ∗ owns (c : Thread nD τ) (wslot b) fullShare (opW m c (Fin.ofNat 4 (s + 1)))) ∗ bandsHeld c m (s + 1)
          -∗ wp frame (wpE (defs₀ (F := F)) 𝒱₀ (c : Thread nD τ) none) Set.univ k Q)
        -∗ wp frame (wpE (defs₀ (F := F)) 𝒱₀ (c : Thread nD τ) none) Set.univ (four (runAdd M b) k) Q) : sProp 𝕄) := by
  unfold bandsHeld
  refine four_step c k (runAdd M b) _ _ _ fun n k => ?_
  iintro ⟨⟨HA, HW⟩, Ho⟩ Hk
  iapply (add_step c k M b n _ _ (tile m c n s)) $$ [HA HW Ho]
  · isplitl [HA]; · iexact HA
    isplitl [HW] <;> iassumption
  iintro ⟨HA, HW, Ho⟩
  iapply Hk
  isplitl [HA HW]
  · isplitl [HA] <;> iassumption
  iexact Ho

/-! ## The result's buffer: bands of columns, then bands of rows -/

/-- The buffer, holding anything, as bands of columns. -/
theorem out_cut (f : Buf (Elt F) ((c : Thread nD τ).loc cc0_stg0_0)) :
    (((c : Thread nD τ).loc cc0_stg0_0) ↦{fullShare} f : sProp 𝕄) ⊢ bigSep Finset.univ fun n : Fin 4 => someIn (c : Thread nD τ) (col n) :=
  (cut (c : Thread nD τ) cc0_stg0_0 colRect (fun _ _ => rfl) colBand mem_colRect fullShare f).trans
    (bigSep_mono fun n _ => someIn_of_owns (c : Thread nD τ) (col n) _)

/-- The bands of columns after the last step, as bands of rows. -/
theorem bands_to_rows :
    (bandsHeld c m 3 : sProp 𝕄)
      ⊢ bigSep Finset.univ fun r : Fin 4 => owns (c : Thread nD τ) (row r) fullShare fun x => summed m c ((rowRect r).emb x) := by
  unfold bandsHeld
  refine (bigSep_mono fun n _ => ?_).trans ((uncut (c : Thread nD τ) cc0_stg0_0 colRect (fun _ _ => rfl) colBand mem_colRect fullShare (summed m c)).trans
    (cut (c : Thread nD τ) cc0_stg0_0 rowRect (fun _ _ => rfl) rowBand mem_rowRect fullShare (summed m c)))
  rw [← bands_col m c 3 n]
  exact BI.Entails.refl _

/-- The bands of rows of the result are the result. -/
theorem rows_to_out :
    (bigSep Finset.univ fun r : Fin 4 => owns (c : Thread nD τ) (row r) fullShare (actRows fun x => summed m c ((rowRect r).emb x)))
      ⊢ ((((c : Thread nD τ).loc cc0_stg0_0) ↦{fullShare} out m c) : sProp 𝕄) :=
  (bigSep_mono fun r _ => Entails.of_eq (congrArg (owns (c : Thread nD τ) (row r) fullShare) (out_row m c r).symm)).trans
    (uncut (c : Thread nD τ) cc0_stg0_0 rowRect (fun _ _ => rfl) rowBand mem_rowRect fullShare (out m c))

/-- The activation of all the rows: the result. -/
theorem act_all :
    (bandsHeld c m 3 : sProp 𝕄)
      ⊢ iprop(((((c : Thread nD τ).loc cc0_stg0_0) ↦{fullShare} out m c) -∗ wp frame (wpE (defs₀ (F := F)) 𝒱₀ (c : Thread nD τ) none) Set.univ k Q)
        -∗ wp frame (wpE (defs₀ (F := F)) 𝒱₀ (c : Thread nD τ) none) Set.univ (four runAct k) Q) := by
  have h := four_step (Q := Q) c k runAct iprop(emp) (fun r => owns (c : Thread nD τ) (row r) fullShare fun x => summed m c ((rowRect r).emb x))
    (fun r => owns (c : Thread nD τ) (row r) fullShare (actRows fun x => summed m c ((rowRect r).emb x))) (fun r k => by
      iintro ⟨-, H⟩ Hk
      iapply (act_step c k r _) $$ H
      iintro H; iapply Hk
      isplitr; · iempintro
      iexact H)
  iintro H Hk
  iapply h $$ [H]
  · isplitr; · iempintro
    iapply (bands_to_rows c m); iexact H
  iintro ⟨-, H⟩
  iapply Hk
  iapply (rows_to_out c m); iexact H

end Cert.Proof

end
-- ==== Proof.Cuts.lean ====
/-
# The buffers as windows

Each buffer the kernel works on, cut into the windows its steps use, and put together again: the rows of this device's
`x` by the device they go to, the rows of `w` by the step that uses them, the two rings by slot.
-/
module

public import proofs.«01_k».proof.Proof.Tiles

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

local notation "𝕄" => MT nD τ sig Unit (Elt F) ℕ UU ℕ

/-! ## The windows as the program addresses them -/

theorem unit_congr {s : Shape} {size off off' : Fin s.rank → ℕ} (h : off = off') (inb : ∀ a, off a + size a ≤ s.size a)
    (inb' : ∀ a, off' a + size a ≤ s.size a) : Rect.unit (s := s) off size inb = Rect.unit (s := s) off' size inb' := by
  subst h; rfl

/-- The rows of the `j`-th block sent. -/
abbrev xGo (c : Dev nD) (j : Fin 3) : Memref sig .tc .hbm S1024x1024 .f32 :=
  xM.slice (Rect.unit (s := S4096x1024) (k0_off1 c (BitVec.ofNat 32 (1 + j.val))) S1024x1024.size (k0_off1_inb c j)) (fun _ => rfl)
/-- This device's own rows. -/
abbrev xOwn (c : Dev nD) : Memref sig .tc .hbm S1024x1024 .f32 :=
  xM.slice (Rect.unit (s := S4096x1024) (k0_off2 c) S1024x1024.size (k0_off2_inb c)) (fun _ => rfl)
/-- The rows of `w` of step `s`. -/
abbrev wGet (c : Dev nD) (s : Fin 4) : Memref sig .tc .hbm S1024x2048 .f32 :=
  wM.slice (Rect.unit (s := S4096x2048) (k0_off3 c (BitVec.ofNat 32 s.val)) S1024x2048.size (k0_off3_inb c s)) (fun _ => rfl)

theorem xGo_eq (c : Dev nD) (j : Fin 3) : xGo c j = xRow (fwd c j) := by
  unfold xGo xRow
  have h : k0_off1 c (BitVec.ofNat 32 (1 + j.val)) = ![1024 * (fwd c j).val, 0] := k0_off1_eq c j
  revert h
  generalize_proofs p1 p2
  revert p1
  generalize k0_off1 c (BitVec.ofNat 32 (1 + j.val)) = off
  intro p1 p2 h; subst h; rfl

theorem xOwn_eq (c : Dev nD) : xOwn c = xRow c := by
  unfold xOwn xRow
  have h : k0_off2 c = ![1024 * c.val, 0] := k0_off2_eq c
  revert h
  generalize_proofs p1 p2
  revert p1
  generalize k0_off2 c = off
  intro p1 p2 h; subst h; rfl

theorem wGet_eq (c : Dev nD) (s : Fin 4) : wGet c s = wRow (src c s) := by
  unfold wGet wRow
  have h : k0_off3 c (BitVec.ofNat 32 s.val) = ![1024 * (src c s).val, 0] := k0_off3_eq c s
  revert h
  generalize_proofs p1 p2
  revert p1
  generalize k0_off3 c (BitVec.ofNat 32 s.val) = off
  intro p1 p2 h; subst h; rfl

/-! ## The cuts -/

variable (m : (ℓ : Loc nD τ sig) → Buf (Elt F) ℓ) (c : Dev nD)

/-- The devices, from `c` on: itself, then the three it sends to. -/
def around : Option (Fin 3) ≃ Dev nD := Equiv.ofBijective (fun o => o.elim c (fwd c)) (by revert c; decide)
/-- The devices, from `c` back: the order in which `c` multiplies by their rows. -/
def back : Fin 4 ≃ Dev nD := Equiv.ofBijective (src c) (by revert c; decide)

/-- Row block `r` of `x`, held at its contents; row block `r` of `w`. -/
abbrev xHeld (r : Dev nD) : sProp (MT nD τ sig Unit (Elt F) ℕ UU ℕ) := owns (c : Thread nD τ) (xRow r) fullShare (xBlk m c r)
abbrev wHeld (r : Dev nD) : sProp (MT nD τ sig Unit (Elt F) ℕ UU ℕ) := owns (c : Thread nD τ) (wRow r) fullShare (wBlk m c r)

/-- The four row blocks of `x`. -/
def xParts : sProp 𝕄 := iprop(xHeld m c c ∗ xHeld m c (fwd c 0) ∗ xHeld m c (fwd c 1) ∗ xHeld m c (fwd c 2))
/-- The four row blocks of `w`. -/
def wParts : sProp 𝕄 := iprop(wHeld m c (src c 0) ∗ wHeld m c (src c 1) ∗ wHeld m c (src c 2) ∗ wHeld m c (src c 3))

theorem xParts_eq : xParts m c = bigSep Finset.univ fun r : Dev nD => xHeld m c r := by
  rw [bigSep_univ_equiv (around c) fun r => xHeld m c r, bigSep_univ_eq_bigSepL [none, some 0, some 1, some 2] (by decide) (by decide)]
  rfl
theorem wParts_eq : wParts m c = bigSep Finset.univ fun r : Dev nD => wHeld m c r := by
  rw [bigSep_univ_equiv (back c) fun r => wHeld m c r, bigSep_univ_eq_bigSepL [(0 : Fin 4), 1, 2, 3] (by decide) (by decide)]
  rfl

theorem x_cut : (((c : Thread nD τ).loc main_arg0) ↦{fullShare} m ((c : Thread nD τ).loc main_arg0) : sProp 𝕄) ⊢ xParts m c := by
  rw [xParts_eq]
  exact cut (c : Thread nD τ) main_arg0 xRect (fun _ _ => rfl) xBand mem_xRect fullShare _
theorem x_uncut : (xParts m c : sProp 𝕄) ⊢ (((c : Thread nD τ).loc main_arg0) ↦{fullShare} m ((c : Thread nD τ).loc main_arg0)) := by
  rw [xParts_eq]
  exact uncut (c : Thread nD τ) main_arg0 xRect (fun _ _ => rfl) xBand mem_xRect fullShare _
theorem w_cut : (((c : Thread nD τ).loc main_arg1) ↦{fullShare} m ((c : Thread nD τ).loc main_arg1) : sProp 𝕄) ⊢ wParts m c := by
  rw [wParts_eq]
  exact cut (c : Thread nD τ) main_arg1 wRect (fun _ _ => rfl) wBandOf mem_wRect fullShare _
theorem w_uncut : (wParts m c : sProp 𝕄) ⊢ (((c : Thread nD τ).loc main_arg1) ↦{fullShare} m ((c : Thread nD τ).loc main_arg1)) := by
  rw [wParts_eq]
  exact uncut (c : Thread nD τ) main_arg1 wRect (fun _ _ => rfl) wBandOf mem_wRect fullShare _

omit [FloatOps F] in
/-- A window holding anything holds anything with its unit axes dropped. -/
theorem someIn_squeeze {sp : Space} {s s' : Shape} {e : EltTy} (M : Memref sig .tc sp s e) (h : s.Squeezes s') :
    (someIn (c : Thread nD τ) (M.squeeze s' h) : sProp 𝕄) ⊢ someIn (c : Thread nD τ) M := by
  unfold someIn
  refine exists_elim fun v => ?_
  rw [owns_squeeze]
  exact exists_intro_trans _ (Entails.refl _)
omit [FloatOps F] in
theorem someIn_of_squeeze {sp : Space} {s s' : Shape} {e : EltTy} (M : Memref sig .tc sp s e) (h : s.Squeezes s') :
    (someIn (c : Thread nD τ) M : sProp 𝕄) ⊢ someIn (c : Thread nD τ) (M.squeeze s' h) := by
  unfold someIn
  iintro ⟨%v, H⟩
  iexists fun x => v (Shape.reshapeEquiv h.numel_eq x)
  rw [owns_squeeze]
  have hv : (fun x => (fun y => v (Shape.reshapeEquiv h.numel_eq y)) ((Shape.reshapeEquiv h.numel_eq).symm x)) = v :=
    funext fun x => congrArg v (Equiv.apply_symm_apply _ _)
  rw [hv]
  iexact H

/-- The slots of the receive ring, and of the ring of `w` blocks. -/
def slots : sProp 𝕄 := iprop(someIn (c : Thread nD τ) (slot 0) ∗ someIn (c : Thread nD τ) (slot 1) ∗ someIn (c : Thread nD τ) (slot 2))
def wslots : sProp 𝕄 := iprop(someIn (c : Thread nD τ) (wslot 0) ∗ someIn (c : Thread nD τ) (wslot 1))
/-- A buffer of the core held at any contents. -/
abbrev anyAt (b : Ref sig .tc) : sProp (MT nD τ sig Unit (Elt F) ℕ UU ℕ) :=
  iprop(∃ f : Buf (Elt F) ((c : Thread nD τ).loc b), ((c : Thread nD τ).loc b) ↦{fullShare} f)

omit [FloatOps F] in
theorem slots_eq : (slots c : sProp 𝕄) = bigSep Finset.univ fun j : Fin 3 => someIn (c : Thread nD τ) (slot j) :=
  (bigSep_univ_eq_bigSepL [(0 : Fin 3), 1, 2] (by decide) (by decide) fun j => someIn (c : Thread nD τ) (slot j)).symm
omit [FloatOps F] in
theorem wslots_eq : (wslots c : sProp 𝕄) = bigSep Finset.univ fun b : Fin 2 => someIn (c : Thread nD τ) (wslot b) :=
  (bigSep_univ_eq_bigSepL [(0 : Fin 2), 1] (by decide) (by decide) fun b => someIn (c : Thread nD τ) (wslot b)).symm

omit [FloatOps F] in
theorem ring_cut : (anyAt c cc0_scratch0 : sProp 𝕄) ⊢ slots c := by
  rw [slots_eq]
  iintro ⟨%f, H⟩
  iapply ((cut (c : Thread nD τ) cc0_scratch0 ringRect (fun _ _ => rfl) ringSlot mem_ringRect fullShare f).trans
    (bigSep_mono fun j _ => (someIn_of_owns (c : Thread nD τ) (ringM.slice (ringRect j) (fun _ => rfl)) _).trans (someIn_of_squeeze c _ _)))
  iexact H
omit [FloatOps F] in
theorem ring_uncut (f₀ : Buf (Elt F) ((c : Thread nD τ).loc cc0_scratch0)) : (slots c : sProp 𝕄) ⊢ anyAt c cc0_scratch0 := by
  rw [slots_eq]
  exact (bigSep_mono fun j _ => someIn_squeeze c (ringM.slice (ringRect j) (fun _ => rfl)) _).trans
    (uncut_some (c : Thread nD τ) cc0_scratch0 ringRect (fun _ _ => rfl) ringSlot mem_ringRect f₀)
omit [FloatOps F] in
theorem wring_cut : (anyAt c cc0_scratch2 : sProp 𝕄) ⊢ wslots c := by
  rw [wslots_eq]
  iintro ⟨%f, H⟩
  iapply ((cut (c : Thread nD τ) cc0_scratch2 wringRect (fun _ _ => rfl) wringSlot mem_wringRect fullShare f).trans
    (bigSep_mono fun j _ => (someIn_of_owns (c : Thread nD τ) (wringM.slice (wringRect j) (fun _ => rfl)) _).trans (someIn_of_squeeze c _ _)))
  iexact H
omit [FloatOps F] in
theorem wring_uncut (f₀ : Buf (Elt F) ((c : Thread nD τ).loc cc0_scratch2)) : (wslots c : sProp 𝕄) ⊢ anyAt c cc0_scratch2 := by
  rw [wslots_eq]
  exact (bigSep_mono fun j _ => someIn_squeeze c (wringM.slice (wringRect j) (fun _ => rfl)) _).trans
    (uncut_some (c : Thread nD τ) cc0_scratch2 wringRect (fun _ _ => rfl) wringSlot mem_wringRect f₀)

omit [FloatOps F] in
/-- The buffer of this device's own block is one window. -/
theorem own_open : (anyAt c cc0_scratch1 : sProp 𝕄) ⊢ someIn (c : Thread nD τ) ownM := by
  unfold someIn owns
  iintro ⟨%f, H⟩
  iexists _; iexists f
  isplitr; · ipureintro; rfl
  rw [show ownM.view.set = Finset.univ from View.set_whole _]
  iexact H
omit [FloatOps F] in
theorem own_close : (someIn (c : Thread nD τ) ownM : sProp 𝕄) ⊢ anyAt c cc0_scratch1 := by
  unfold someIn owns
  iintro ⟨%v, %f, %hf, H⟩
  rw [show ownM.view.set = Finset.univ from View.set_whole _]
  iexists f; iexact H

end Cert.Proof

end
-- ==== Proof.Body.lean ====
/-
# The kernel's run on one device

From its ghost state, its arguments and its buffers, a device runs the kernel through: the handshake, the three blocks
sent, the products step by step as the blocks arrive, the activation, the waits for its own blocks to have left.
-/
module

public import proofs.«01_k».proof.Proof.Cuts
public import proofs.«01_k».proof.Proof.Gen.KernelIdeal.Skeleton
public import proofs.«01_k».proof.Proof.Gen.KernelIdeal.Frame

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Windows

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- A counter of device `c` at zero. -/
abbrev zero (sm : SemLoc sig) : sProp (MT nD τ sig Unit (Elt F) ℕ UU ℕ) := semVal ((c : Thread nD τ), sm) 0

/-- A whole buffer of the core, at its launch contents. -/
abbrev argAt (b : Ref sig .tc) : sProp (MT nD τ sig Unit (Elt F) ℕ UU ℕ) :=
  ((c : Thread nD τ).loc b) ↦{fullShare} m ((c : Thread nD τ).loc b)

/-- The counters of the local copies, at zero. -/
def localZeros : sProp 𝕄 := iprop(zero c (.dma ownS) ∗ zero c (.dma (wS 0)) ∗ zero c (.dma (wS 1)))
/-- The counters other devices take part in, at zero. -/
def cellZeros : sProp 𝕄 := iprop(zero c (csem none)
  ∗ (zero c (csem (some (false, 0))) ∗ zero c (csem (some (false, 1))) ∗ zero c (csem (some (false, 2))))
  ∗ (zero c (csem (some (true, 0))) ∗ zero c (csem (some (true, 1))) ∗ zero c (csem (some (true, 2)))))
/-- The credits for what the others do to this device's cells. -/
def arrivals : sProp 𝕄 := iprop(cred (tallyAt (barCell c) () 3)
  ∗ cred (tallyAt (recvCell c 0) () N) ∗ cred (tallyAt (recvCell c 1) () N) ∗ cred (tallyAt (recvCell c 2) () N))
/-- The kernel's own buffers, at any contents. -/
def scratch : sProp 𝕄 := iprop(anyAt c cc0_scratch0 ∗ anyAt c cc0_scratch1 ∗ anyAt c cc0_scratch2)

def bodyPre : sProp 𝕄 :=
  iprop(ghost m K c ∗ arrivals c ∗ levAts L lv ∗ (argAt m c main_arg0 ∗ argAt m c main_arg1) ∗ localZeros c ∗ scratch c
    ∗ obl c (O₀ c) ∗ anyAt c cc0_stg0_0)
def bodyPost : sProp 𝕄 :=
  iprop((argAt m c main_arg0 ∗ argAt m c main_arg1) ∗ localZeros c ∗ cellZeros c ∗ scratch c
    ∗ obl c 0 ∗ (((c : Thread nD τ).loc cc0_stg0_0) ↦{fullShare} out m c))

omit [FloatOps F] in
theorem pos_list : (bigSep Finset.univ fun k : CK => pos0 c k : sProp 𝕄)
    = iprop(pos0 c none ∗ pos0 c (some (false, 0)) ∗ pos0 c (some (false, 1)) ∗ pos0 c (some (false, 2))
        ∗ pos0 c (some (true, 0)) ∗ pos0 c (some (true, 1)) ∗ pos0 c (some (true, 2))) :=
  bigSep_univ_eq_bigSepL [none, some (false, 0), some (false, 1), some (false, 2), some (true, 0), some (true, 1), some (true, 2)]
    (by decide) (by decide) _
omit [FloatOps F] in
theorem tok_list : (bigSep Finset.univ fun j : Fin 3 => payToks c j : sProp 𝕄) = iprop(payToks c 0 ∗ payToks c 1 ∗ payToks c 2) :=
  bigSep_univ_eq_bigSepL [(0 : Fin 3), 1, 2] (by decide) (by decide) _

/-- The credit of a local copy of `w` rows, and of a block of `x`. -/
abbrev NW : ℕ := (wslot 0).view.dmaCredit
abbrev NX : ℕ := ownM.view.dmaCredit
theorem NW_pos : 0 < NW := View.dmaCredit_pos _ (by decide)
theorem NX_pos : 0 < NX := View.dmaCredit_pos _ (by decide)
theorem xGo_credit (j : Fin 3) : (xGo c j).view.dmaCredit = N := rfl

omit [FloatOps F] in
theorem xHeld_own : (xHeld m c c : sProp 𝕄) = owns (c : Thread nD τ) (xOwn c) fullShare (opX m c 0) := by
  unfold opX xHeld; rw [xOwn_eq, src_zero]
omit [FloatOps F] in
theorem wHeld_get (s : Fin 4) : (wHeld m c (src c s) : sProp 𝕄) = owns (c : Thread nD τ) (wGet c s) fullShare (opW m c s) := by
  unfold opW wHeld; rw [wGet_eq]

omit [FloatOps F] in
/-- What the wait for an arrived block gives: the rows the step multiplies by. -/
theorem pay_arrived (j : Fin 3) : (payOf m c (some (some (true, j))) 0 : sProp 𝕄) = owns (c : Thread nD τ) (slot j) fullShare (opX m c j.succ) := rfl
omit [FloatOps F] in
/-- What the wait for a sent block gives: its rows back. -/
theorem pay_left (j : Fin 3) : (payOf m c (some (some (false, j))) 0 : sProp 𝕄) = xHeld m c (fwd c j) := rfl

set_option maxRecDepth 65536 in
set_option maxHeartbeats 4000000 in
theorem sound_body (Kt : PUnit → sProp 𝕄) :
    iprop(bodyPre m K c ∗ (bodyPost m c -∗ Kt ⟨⟩))
      ⊢ wp frame (wpE (defs₀ (F := F)) 𝒱₀ (c : Thread nD τ) none) Set.univ (bodyAt0 (F := F) t0_0) Kt := by
  unfold bodyAt0
  simp only [cc0_body_eq_skeleton]; unfold cc0_body_skel
  simp only [k0_part13_eq_skeleton]; unfold k0_part13_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton]
  unfold k0_part1_skel k0_part2_skel k0_part3_skel k0_part4_skel k0_part5_skel k0_part6_skel k0_part7_skel k0_part8_skel k0_part9_skel k0_part10_skel
    k0_part11_skel k0_part12_skel
  simp only [semSignalWord, semWaitWord, Prog.lift, Prog.bind_op, Prog.bind_ret, Prog.pure_eq_ret, wp_deviceId]
  unfold bodyPre ghost arrivals localZeros scratch
  rw [pos_list, tok_list]
  unfold payToks
  iintro ⟨⟨⟨#HR, ⟨HpB, HpS0, HpS1, HpS2, HpV0, HpV1, HpV2⟩, ⟨HtB0, HtV0, HtS0⟩, ⟨HtB1, HtV1, HtS1⟩, ⟨HtB2, HtV2, HtS2⟩⟩,
    ⟨HcB, HcV0, HcV1, HcV2⟩, #HL, ⟨Hx, Hw⟩, ⟨Hz, Hz0, Hz1⟩, ⟨Hring, Hown, Hwring⟩, HO, Hout⟩, Hk⟩
  ihave Hx := (x_cut m c) $$ Hx
  ihave Hw := (w_cut m c) $$ Hw
  ihave Hring := (ring_cut c) $$ Hring
  ihave Hown := (own_open c) $$ Hown
  ihave Hwring := (wring_cut c) $$ Hwring
  unfold xParts wParts slots wslots
  icases Hx with ⟨Hxo, Hx0, Hx1, Hx2⟩
  icases Hw with ⟨Hw0, Hw1, Hw2, Hw3⟩
  icases Hring with ⟨Hr0, Hr1, Hr2⟩
  icases Hwring with ⟨Hq0, Hq1⟩
  -- the handshake
  unfold O₀
  iapply (signal_step m K c 0 [1, 2] (Fin.ext (k0_dev1_eq c)) (by decide)) $$ [HtB0 Hr2 HO]
  · isplitr; · iexact HR
    isplitl [HtB0]; · iexact HtB0
    isplitl [Hr2]; · iexact Hr2
    iexact HO
  iintro HO
  iapply (signal_step m K c 1 [2] (Fin.ext (k0_dev2_eq c)) (by decide)) $$ [HtB1 Hr1 HO]
  · isplitr; · iexact HR
    isplitl [HtB1]; · iexact HtB1
    isplitl [Hr1]; · iexact Hr1
    iexact HO
  iintro HO
  iapply (signal_step m K c 2 [] (Fin.ext (k0_dev3_eq c)) (by decide)) $$ [HtB2 Hr0 HO]
  · isplitr; · iexact HR
    isplitl [HtB2]; · iexact HtB2
    isplitl [Hr0]; · iexact Hr0
    iexact HO
  iintro HO
  rw [show owedSignals c [] = owedSends c [0, 1, 2] from rfl]
  iapply (barrier_step m K c (by decide)) $$ [HcB HpB HO]
  · isplitr; · iexact HR
    isplitr; · iexact HL
    isplitl [HcB]; · iexact HcB
    isplitl [HpB] <;> iassumption
  iintro ⟨HO, HzB, Hb0, Hb1, Hb2⟩
  -- the three blocks sent
  iapply (send_step m K c 0 [1, 2] (Fin.ext (k0_dev4_eq c)) (xGo_eq c 0) rfl rfl rfl) $$ [Hx0 Hb0 HO HtS0 HtV0]
  · isplitr; · iexact HR
    isplitl [Hx0]; · iexact Hx0
    isplitl [Hb0]; · iexact Hb0
    isplitl [HO]; · iexact HO
    isplitl [HtS0] <;> iassumption
  iintro ⟨HO, HcS0⟩
  iapply (send_step m K c 1 [2] (Fin.ext (k0_dev5_eq c)) (xGo_eq c 1) rfl rfl rfl) $$ [Hx1 Hb1 HO HtS1 HtV1]
  · isplitr; · iexact HR
    isplitl [Hx1]; · iexact Hx1
    isplitl [Hb1]; · iexact Hb1
    isplitl [HO]; · iexact HO
    isplitl [HtS1] <;> iassumption
  iintro ⟨HO, HcS1⟩
  iapply (send_step m K c 2 [] (Fin.ext (k0_dev6_eq c)) (xGo_eq c 2) rfl rfl rfl) $$ [Hx2 Hb2 HO HtS2 HtV2]
  · isplitr; · iexact HR
    isplitl [Hx2]; · iexact Hx2
    isplitl [Hb2]; · iexact Hb2
    isplitl [HO]; · iexact HO
    isplitl [HtS2] <;> iassumption
  iintro ⟨HO, HcS2⟩
  rw [show owedSends c [] = 0 from rfl]
  -- this device's own rows, and the first two blocks of `w`
  ihave Hxo := (Entails.of_eq (xHeld_own m c)) $$ Hxo
  ihave Hw0 := (Entails.of_eq (wHeld_get m c 0)) $$ Hw0
  ihave Hw1 := (Entails.of_eq (wHeld_get m c 1)) $$ Hw1
  ihave Hw2 := (Entails.of_eq (wHeld_get m c 2)) $$ Hw2
  ihave Hw3 := (Entails.of_eq (wHeld_get m c 3)) $$ Hw3
  iapply (copy_start 𝒱₀ (c : Thread nD τ) (EC := EC) (src := xOwn c) (dst := ownM) () NX rfl NX_pos) $$ [Hxo Hown Hz]
  · isplitl [Hxo]; · iexact Hxo
    isplitl [Hown] <;> iassumption
  iintro HF
  iapply (copy_start 𝒱₀ (c : Thread nD τ) (EC := EC) (src := wGet c 0) (dst := wslot 0) () NW rfl NW_pos) $$ [Hw0 Hq0 Hz0]
  · isplitl [Hw0]; · iexact Hw0
    isplitl [Hq0]; · iexact Hq0
    iexact Hz0
  iintro HF0
  iapply (copy_start 𝒱₀ (c : Thread nD τ) (EC := EC) (src := wGet c 1) (dst := wslot 1) () NW rfl NW_pos) $$ [Hw1 Hq1 Hz1]
  · isplitl [Hw1]; · iexact Hw1
    isplitl [Hq1]; · iexact Hq1
    iexact Hz1
  iintro HF1
  iapply (local_wait c (D := ownM) (N := NX) rfl) $$ [HF HO]
  · isplitl [HF] <;> iassumption
  iintro ⟨HO, Hz, Hown, Hxo⟩
  iapply (local_wait c (D := wslot 0) (N := NW) rfl) $$ [HF0 HO]
  · isplitl [HF0] <;> iassumption
  iintro ⟨HO, Hz0, Hq0, Hw0⟩
  -- step 0
  ihave Hb := (exists_elim fun f => out_cut c f) $$ Hout
  iapply (first_step c _ m ownM 0) $$ [Hown Hq0 Hb]
  · isplitr [Hb]
    · isplitl [Hown]; · iexact Hown
      iexact Hq0
    iexact Hb
  iintro ⟨⟨Hown, Hq0⟩, Hb⟩
  ihave Hown := (someIn_of_owns (c : Thread nD τ) ownM _) $$ Hown
  ihave Hq0 := (someIn_of_owns (c : Thread nD τ) (wslot 0) _) $$ Hq0
  -- step 1
  iapply (copy_start 𝒱₀ (c : Thread nD τ) (EC := EC) (src := wGet c 2) (dst := wslot 0) () NW rfl NW_pos) $$ [Hw2 Hq0 Hz0]
  · isplitl [Hw2]; · iexact Hw2
    isplitl [Hq0]; · iexact Hq0
    iexact Hz0
  iintro HF0
  iapply (block_wait m K c true 0 rfl (slot_credit 0)) $$ [HcV0 HpV0 HO]
  · isplitr; · iexact HR
    isplitl [HcV0]; · iexact HcV0
    isplitl [HpV0] <;> iassumption
  iintro ⟨HO, HzV0, Hr0⟩
  ihave Hr0 := (Entails.of_eq (pay_arrived m c 0)) $$ Hr0
  iapply (local_wait c (D := wslot 1) (N := NW) rfl) $$ [HF1 HO]
  · isplitl [HF1] <;> iassumption
  iintro ⟨HO, Hz1, Hq1, Hw1⟩
  iapply (later_step c _ m (slot 0) 1 0) $$ [Hr0 Hq1 Hb]
  · isplitr [Hb]
    · isplitl [Hr0]; · iexact Hr0
      iexact Hq1
    iexact Hb
  iintro ⟨⟨Hr0, Hq1⟩, Hb⟩
  ihave Hr0 := (someIn_of_owns (c : Thread nD τ) (slot 0) _) $$ Hr0
  ihave Hq1 := (someIn_of_owns (c : Thread nD τ) (wslot 1) _) $$ Hq1
  -- step 2
  iapply (copy_start 𝒱₀ (c : Thread nD τ) (EC := EC) (src := wGet c 3) (dst := wslot 1) () NW rfl NW_pos) $$ [Hw3 Hq1 Hz1]
  · isplitl [Hw3]; · iexact Hw3
    isplitl [Hq1]; · iexact Hq1
    iexact Hz1
  iintro HF1
  iapply (block_wait m K c true 1 rfl (slot_credit 1)) $$ [HcV1 HpV1 HO]
  · isplitr; · iexact HR
    isplitl [HcV1]; · iexact HcV1
    isplitl [HpV1] <;> iassumption
  iintro ⟨HO, HzV1, Hr1⟩
  ihave Hr1 := (Entails.of_eq (pay_arrived m c 1)) $$ Hr1
  iapply (local_wait c (D := wslot 0) (N := NW) rfl) $$ [HF0 HO]
  · isplitl [HF0] <;> iassumption
  iintro ⟨HO, Hz0, Hq0, Hw2⟩
  iapply (later_step c _ m (slot 1) 0 1) $$ [Hr1 Hq0 Hb]
  · isplitr [Hb]
    · isplitl [Hr1]; · iexact Hr1
      iexact Hq0
    iexact Hb
  iintro ⟨⟨Hr1, Hq0⟩, Hb⟩
  ihave Hr1 := (someIn_of_owns (c : Thread nD τ) (slot 1) _) $$ Hr1
  ihave Hq0 := (someIn_of_owns (c : Thread nD τ) (wslot 0) _) $$ Hq0
  -- step 3
  iapply (block_wait m K c true 2 rfl (slot_credit 2)) $$ [HcV2 HpV2 HO]
  · isplitr; · iexact HR
    isplitl [HcV2]; · iexact HcV2
    isplitl [HpV2] <;> iassumption
  iintro ⟨HO, HzV2, Hr2⟩
  ihave Hr2 := (Entails.of_eq (pay_arrived m c 2)) $$ Hr2
  iapply (local_wait c (D := wslot 1) (N := NW) rfl) $$ [HF1 HO]
  · isplitl [HF1] <;> iassumption
  iintro ⟨HO, Hz1, Hq1, Hw3⟩
  iapply (later_step c _ m (slot 2) 1 2) $$ [Hr2 Hq1 Hb]
  · isplitr [Hb]
    · isplitl [Hr2]; · iexact Hr2
      iexact Hq1
    iexact Hb
  iintro ⟨⟨Hr2, Hq1⟩, Hb⟩
  ihave Hr2 := (someIn_of_owns (c : Thread nD τ) (slot 2) _) $$ Hr2
  ihave Hq1 := (someIn_of_owns (c : Thread nD τ) (wslot 1) _) $$ Hq1
  -- the activation
  iapply (act_all c _ m) $$ Hb
  iintro Hout
  -- the blocks sent have left
  iapply (block_wait m K c false 0 rfl (xGo_credit c 0)) $$ [HcS0 HpS0 HO]
  · isplitr; · iexact HR
    isplitl [HcS0]; · iexact HcS0
    isplitl [HpS0] <;> iassumption
  iintro ⟨HO, HzS0, Hx0⟩
  iapply (block_wait m K c false 1 rfl (xGo_credit c 1)) $$ [HcS1 HpS1 HO]
  · isplitr; · iexact HR
    isplitl [HcS1]; · iexact HcS1
    isplitl [HpS1] <;> iassumption
  iintro ⟨HO, HzS1, Hx1⟩
  iapply (block_wait m K c false 2 rfl (xGo_credit c 2)) $$ [HcS2 HpS2 HO]
  · isplitr; · iexact HR
    isplitl [HcS2]; · iexact HcS2
    isplitl [HpS2] <;> iassumption
  iintro ⟨HO, HzS2, Hx2⟩
  rw [wp_ret]; imodintro
  iapply Hk
  ihave Hx0 := (Entails.of_eq (pay_left m c 0)) $$ Hx0
  ihave Hx1 := (Entails.of_eq (pay_left m c 1)) $$ Hx1
  ihave Hx2 := (Entails.of_eq (pay_left m c 2)) $$ Hx2
  ihave Hxo := (Entails.of_eq (xHeld_own m c).symm) $$ Hxo
  ihave Hw0 := (Entails.of_eq (wHeld_get m c 0).symm) $$ Hw0
  ihave Hw1 := (Entails.of_eq (wHeld_get m c 1).symm) $$ Hw1
  ihave Hw2 := (Entails.of_eq (wHeld_get m c 2).symm) $$ Hw2
  ihave Hw3 := (Entails.of_eq (wHeld_get m c 3).symm) $$ Hw3
  unfold bodyPost cellZeros localZeros scratch
  isplitl [Hxo Hx0 Hx1 Hx2 Hw0 Hw1 Hw2 Hw3]
  · isplitl [Hxo Hx0 Hx1 Hx2]
    · iapply (x_uncut m c); unfold xParts
      isplitl [Hxo]; · iexact Hxo
      isplitl [Hx0]; · iexact Hx0
      isplitl [Hx1] <;> iassumption
    · iapply (w_uncut m c); unfold wParts
      isplitl [Hw0]; · iexact Hw0
      isplitl [Hw1]; · iexact Hw1
      isplitl [Hw2] <;> iassumption
  isplitl [Hz Hz0 Hz1]
  · isplitl [Hz]; · iexact Hz
    isplitl [Hz0]; · iexact Hz0
    iexact Hz1
  isplitl [HzB HzS0 HzS1 HzS2 HzV0 HzV1 HzV2]
  · isplitl [HzB]; · iexact HzB
    isplitl [HzS0 HzS1 HzS2]
    · isplitl [HzS0]; · iexact HzS0
      isplitl [HzS1] <;> iassumption
    · isplitl [HzV0]; · iexact HzV0
      isplitl [HzV1] <;> iassumption
  isplitl [Hr0 Hr1 Hr2 Hown Hq0 Hq1]
  · isplitl [Hr0 Hr1 Hr2]
    · iapply (ring_uncut c (m _)); unfold slots
      isplitl [Hr0]; · iexact Hr0
      isplitl [Hr1] <;> iassumption
    isplitl [Hown]; · iapply (own_close c); iexact Hown
    iapply (wring_uncut c (m _)); unfold wslots
    isplitl [Hq0] <;> iassumption
  isplitl [HO] <;> iassumption

end Cert.Proof

end
-- ==== Proof.Setup.lean ====
/-
# Dealing out the protocol's state

At launch every device's counters become cells of the protocol. The tokens of a cell's duties go to the devices that
pay them, and every device is credited with what the others owe its cells.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Windows

variable {F : FTy → Type} [FloatOps F]

local notation "𝕄" => MT nD τ sig Unit (Elt F) ℕ UU ℕ

variable (m : (ℓ : Loc nD τ sig) → Buf (Elt F) ℓ)

/-! ## The cells and their tokens -/

/-- The kernel's own counters: those of its sends, of its receives, and of its local copies. -/
abbrev osem : Fin 9 → SemLoc sig := fun
  | 0 => .dma (sendS 0) | 1 => .dma (sendS 1) | 2 => .dma (sendS 2)
  | 3 => .dma (recvS 0) | 4 => .dma (recvS 1) | 5 => .dma (recvS 2)
  | 6 => .dma ownS | 7 => .dma (wS 0) | 8 => .dma (wS 1)

theorem ownSemFacts : Pipeline.OwnSemFacts cfg0.spec osem := by decide

def allCells : Finset (GSem nD τ sig) := Finset.univ.map ⟨kcell, kcell_injective⟩

/-- The duties of a device's own cells: three at its barrier, one at each of the others. -/
abbrev tokOf (x : (Dev nD × Fin 3) × Option Bool) : GSem nD τ sig × ℕ × Fin 3 := match x.2 with
  | none => (barCell x.1.1, 0, x.1.2)
  | some b => (kcell (x.1.1, some (b, x.1.2)), 0, 0)
/-- The cell of the token with index `j`. -/
abbrev tokKind (j : Fin 3) : Option Bool → CK
  | none => none
  | some b => some (b, j)
theorem tokOf_injective : Function.Injective tokOf := by
  rintro ⟨⟨c, j⟩, o⟩ ⟨⟨c', j'⟩, o'⟩ h
  have hd := congrArg (fun x : GSem nD τ sig × ℕ × Fin 3 => x.2.2) h
  have hk : (c, tokKind j o) = (c', tokKind j' o') := kcell_injective (by
    have h1 := congrArg Prod.fst h
    cases o <;> cases o' <;> exact h1)
  obtain ⟨rfl, hkk⟩ := Prod.mk.inj hk
  cases o <;> cases o'
  · rw [show j = j' from hd]
  · exact absurd hkk (Option.some_ne_none _).symm
  · exact absurd hkk (Option.some_ne_none _)
  · obtain ⟨rfl, rfl⟩ := Prod.mk.inj (Option.some.inj hkk); rfl
def allToks : Finset (GSem nD τ sig × ℕ × Fin 3) := Finset.univ.map ⟨tokOf, tokOf_injective⟩

/-- The launch's ghost element: the pipeline's, these cells', and no counter yet for the local copies. -/
def u₀ : UU :=
  (initOf (Pipeline.cells cfgs cellOf_inj) (Pipeline.launchToks cfgs cellOf_inj), (initOf allCells allToks, 1))

/-- The tokens of a device's own cells, with index `j`. -/
def ownToks (x : Dev nD × Fin 3) : sProp 𝕄 :=
  iprop(dutyTok ER (barCell x.1) 0 x.2 ∗ dutyTok ER (recvCell x.1 x.2) 0 0 ∗ dutyTok ER (sendCell x.1 x.2) 0 0)

/-- The cells' states, positions and marks of a device, and its own cells' tokens. -/
def G (c : Dev nD) : sProp 𝕄 :=
  iprop((bigSep Finset.univ fun k : CK => roundState ER (sched m) (kcell (c, k)) 0)
    ∗ ((bigSep Finset.univ fun k : CK => pos0 c k) ∗ bigSep Finset.univ fun k : CK => reached ER (kcell (c, k)) 0)
    ∗ bigSep Finset.univ fun j : Fin 3 => ownToks (c, j))
/-- What a device's program starts from. -/
def G' (c : Dev nD) : sProp 𝕄 := iprop((∃ K, ghost m K c) ∗ localZeros c)

omit [FloatOps F] in
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄))
      = bigSep Finset.univ fun c : Dev nD => bigSep Finset.univ fun j : Fin 3 => ownToks (c, j) := by
    unfold allToks; rw [bigSep_map, bigSep_univ_prod, bigSep_univ_prod]
    refine bigSep_congr fun c _ => bigSep_congr fun j _ => ?_
    rw [bigSep_univ_eq_bigSepL [none, some true, some false] (by decide) (by decide)]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The counters become cells -/

omit [FloatOps F] in
theorem ownSems0_eq (c : Dev nD) : (Pipeline.ownSems0 (Ix := Unit) (Name := ℕ) (U := UU) (Lvl := ℕ) (Val := Elt F) (τ := τ) osem c : sProp 𝕄)
    = iprop(zero c (.dma (sendS 0)) ∗ zero c (.dma (sendS 1)) ∗ zero c (.dma (sendS 2)) ∗ zero c (.dma (recvS 0)) ∗ zero c (.dma (recvS 1)) ∗ zero c (.dma (recvS 2))
        ∗ zero c (.dma ownS) ∗ zero c (.dma (wS 0)) ∗ zero c (.dma (wS 1))) := by
  rw [Pipeline.ownSems0_eq_of_list c osem [0, 1, 2, 3, 4, 5, 6, 7, 8] (by decide) (by decide)]; rfl
omit [FloatOps F] in
theorem unscopedSems0_eq (c : Dev nD) : (unscopedSems0 c : sProp 𝕄) = zero c (.reg barS) := by
  unfold unscopedSems0; rw [bigSep_eq_bigSepL_of_eq [SemLoc.reg barS] (by decide) (by decide)]; rfl

omit [FloatOps F] in
theorem cellZeros_eq (c : Dev nD) : (bigSep Finset.univ fun k : CK => (semVal (kcell (c, k)) 0 : sProp 𝕄))
    = iprop(zero c (csem none) ∗ zero c (csem (some (false, 0))) ∗ zero c (csem (some (false, 1))) ∗ zero c (csem (some (false, 2)))
        ∗ zero c (csem (some (true, 0))) ∗ zero c (csem (some (true, 1))) ∗ zero c (csem (some (true, 2)))) :=
  bigSep_univ_eq_bigSepL [none, some (false, 0), some (false, 1), some (false, 2), some (true, 0), some (true, 1), some (true, 2)]
    (by decide) (by decide) _

omit [FloatOps F] in
/-- A device's counters: its cells', and its local copies'. -/
theorem sems_split (c : Dev nD) :
    iprop(Pipeline.ownSems0 (Ix := Unit) (Name := ℕ) (U := UU) (Lvl := ℕ) (Val := Elt F) (τ := τ) osem c ∗ unscopedSems0 c)
      ⊢ (iprop((bigSep Finset.univ fun k : CK => semVal (kcell (c, k)) 0) ∗ localZeros c) : sProp 𝕄) := by
  rw [ownSems0_eq, unscopedSems0_eq, cellZeros_eq]
  unfold localZeros
  iintro ⟨⟨S0, S1, S2, V0, V1, V2, O, W0, W1⟩, B⟩
  isplitr [O W0 W1]
  · isplitl [B]; · iexact B
    isplitl [S0]; · iexact S0
    isplitl [S1]; · iexact S1
    isplitl [S2]; · iexact S2
    isplitl [V0]; · iexact V0
    isplitl [V1]; · iexact V1
    iexact V2
  · isplitl [O]; · iexact O
    isplitl [W0]; · iexact W0
    iexact W1

omit [FloatOps F] in
/-- And back, at the end. -/
theorem sems_join (c : Dev nD) : (iprop(cellZeros c ∗ localZeros c) : sProp 𝕄)
    ⊢ iprop(Pipeline.ownSems0 (Ix := Unit) (Name := ℕ) (U := UU) (Lvl := ℕ) (Val := Elt F) (τ := τ) osem c ∗ unscopedSems0 c) := by
  rw [ownSems0_eq, unscopedSems0_eq]
  unfold localZeros cellZeros
  iintro ⟨⟨B, ⟨S0, S1, S2⟩, V0, V1, V2⟩, O, W0, W1⟩
  isplitr [B]
  · isplitl [S0]; · iexact S0
    isplitl [S1]; · iexact S1
    isplitl [S2]; · iexact S2
    isplitl [V0]; · iexact V0
    isplitl [V1]; · iexact V1
    isplitl [V2]; · iexact V2
    isplitl [O]; · iexact O
    isplitl [W0]; · iexact W0
    iexact W1
  · iexact B

omit [FloatOps F] in
/-- One device's cells, their invariants made. -/
theorem open_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => reached ER (kcell (c, k)) 0)
          ∗ ((bigSep Finset.univ fun k => pos0 c k) ∗ localZeros c) ∗ bigSep Finset.univ fun j : Fin 3 => ownToks (c, j)) := by
  have hinv : iprop((bigSep Finset.univ fun k : CK => semVal (kcell (c, k)) 0) ∗ bigSep Finset.univ fun k : CK => roundState ER (sched m) (kcell (c, k)) 0)
      ⊢ (|={Set.univ}=> bigSep Finset.univ fun k => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  unfold G
  iintro ⟨Hos, Hus, Hst, ⟨Hat, Hr⟩, Htok⟩
  ihave Hv := (sems_split (F := F) c) $$ [Hos Hus]
  · isplitl [Hos] <;> iassumption
  icases Hv with ⟨Hv, Hz⟩
  imod hinv $$ [Hv Hst] with Hinv
  · isplitl [Hv] <;> iassumption
  imodintro
  isplitl [Hinv]; · iexact Hinv
  isplitl [Hr]; · iexact Hr
  isplitl [Hat Hz]
  · isplitl [Hat] <;> iassumption
  iexact Htok

/-! ## The tokens go around -/

/-- From a device and an index to the barrier duty that device pays with that index; likewise for blocks. -/
def barTurn : Dev nD × Fin 3 ≃ Dev nD × Fin 3 :=
  ⟨fun x => (fwd x.1 x.2, x.2.rev), fun x => (fwd x.1 x.2, x.2.rev), by decide, by decide⟩
def blockTurn : Dev nD × Fin 3 ≃ Dev nD × Fin 3 :=
  ⟨fun x => (fwd x.1 x.2, x.2), fun x => (src x.1 x.2.succ, x.2), by decide, by decide⟩

omit [FloatOps F] in
theorem toks_around :
    (bigSep Finset.univ fun c : Dev nD => bigSep Finset.univ fun j : Fin 3 => (ownToks (c, j) : sProp 𝕄))
      = bigSep Finset.univ fun c : Dev nD => bigSep Finset.univ fun j : Fin 3 => payToks c j := by
  rw [← bigSep_univ_prod (fun x : Dev nD × Fin 3 => (ownToks x : sProp 𝕄)), ← bigSep_univ_prod (fun x : Dev nD × Fin 3 => (payToks x.1 x.2 : sProp 𝕄))]
  unfold ownToks payToks
  rw [bigSep_sep', bigSep_sep', bigSep_sep', bigSep_sep',
    bigSep_univ_equiv barTurn fun x : Dev nD × Fin 3 => (dutyTok ER (barCell x.1) 0 x.2 : sProp 𝕄),
    bigSep_univ_equiv blockTurn fun x : Dev nD × Fin 3 => (dutyTok ER (recvCell x.1 x.2) 0 0 : sProp 𝕄)]
  rfl

omit [FloatOps F] in
theorem deal :
    (bigSep Finset.univ fun c : Dev nD => iprop((bigSep Finset.univ fun k => iprop(∃ κ : ℕ, cellInv ER (sched m) κ (kcell (c, k))))
          ∗ (bigSep Finset.univ fun k => reached ER (kcell (c, k)) 0)
          ∗ ((bigSep Finset.univ fun k => pos0 c k) ∗ localZeros c) ∗ bigSep Finset.univ fun j : Fin 3 => ownToks (c, j)) : sProp 𝕄)
      ⊢ bigSep Finset.univ (G' m) := by
  rw [bigSep_sep', bigSep_sep', bigSep_sep', toks_around,
    ← bigSep_univ_prod (fun ck : Dev nD × CK => iprop(∃ κ : ℕ, cellInv ER (sched m) κ (kcell ck))),
    ← bigSep_univ_prod (fun ck : Dev nD × CK => (reached ER (kcell ck) 0 : sProp 𝕄)), ← bigSep_sep']
  iintro ⟨HI, #HR, Hrest⟩
  ihave HK := (BI.bigSep_exists_pi Finset.univ (fun (ck : Dev nD × CK) (κ : ℕ) => (cellInv ER (sched m) κ (kcell ck) : sProp 𝕄))) $$ HI
  icases HK with ⟨%K, #HI⟩
  have hone : ∀ c ∈ (Finset.univ : Finset (Dev nD)),
      iprop(records m K ∗ ((bigSep Finset.univ fun k : CK => pos0 c k) ∗ localZeros c) ∗ bigSep Finset.univ fun j : Fin 3 => payToks c j) ⊢ G' m c := fun c _ => by
    unfold G' ghost
    iintro ⟨Hrec, ⟨Hat, Hz⟩, Htok⟩
    isplitr [Hz]
    · iexists K
      isplitl [Hrec]; · iexact Hrec
      isplitl [Hat] <;> iassumption
    iexact Hz
  iapply ((sep_mono_left (BI.bigSep_of_persistent Finset.univ (records m K))).trans (by rw [← bigSep_sep']; exact bigSep_mono hone))
  isplitr
  · unfold records; isplitl; · iexact HI
    iexact HR
  · iexact Hrest

omit [FloatOps F] in
/-- The whole machine's step at launch. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => open_cells m c).trans (bigSep_fupd _ _)).trans (BI.fupd_mono (deal m))

/-! ## The credit -/

theorem owedSends_at (d c : Dev nD) (k : CK) : ∀ l : List (Fin 3),
    owedSends d l (kcell (c, k)) () = N * (l.map fun i => if (c, k) = (fwd d i, some (true, i)) then 1 else 0).sum
  | [] => rfl
  | i :: l => by
    show (owedSends d l + tallyAt (recvCell (fwd d i) i) () N) (kcell (c, k)) () = _
    rw [Pi.add_apply, Finsupp.add_apply, owedSends_at d c k l, tallyAt_apply, List.map_cons, List.sum_cons, Nat.mul_add, Nat.add_comm]
    refine congrArg (· + _) ?_
    by_cases h : (c, k) = (fwd d i, some (true, i))
    · rw [if_pos ⟨congrArg kcell h, rfl⟩, if_pos h, Nat.mul_one]
    · rw [if_neg fun h' => h (kcell_eq_iff.mp h'.1), if_neg h, Nat.mul_zero]

theorem owedSignals_at (d c : Dev nD) (k : CK) : ∀ l : List (Fin 3),
    owedSignals d l (kcell (c, k)) () = (l.map fun i => if (c, k) = (fwd d i, none) then 1 else 0).sum + owedSends d [0, 1, 2] (kcell (c, k)) ()
  | [] => (Nat.zero_add _).symm
  | i :: l => by
    show (owedSignals d l + tallyAt (barCell (fwd d i)) () 1) (kcell (c, k)) () = _
    rw [Pi.add_apply, Finsupp.add_apply, owedSignals_at d c k l, tallyAt_apply, List.map_cons, List.sum_cons, Nat.add_right_comm,
      Nat.add_comm (List.sum _)]
    refine congrArg (· + _ + _) ?_
    by_cases h : (c, k) = (fwd d i, none)
    · rw [if_pos ⟨congrArg kcell h, rfl⟩, if_pos h]
    · rw [if_neg fun h' => h (kcell_eq_iff.mp h'.1), if_neg h]

/-- What all the devices owe one cell. -/
theorem owed_all (c : Dev nD) (k : CK) :
    ∑ d : Dev nD, O₀ d (kcell (c, k)) () = (∑ d : Dev nD, ([0, 1, 2].map fun i => if (c, k) = (fwd d i, none) then 1 else 0).sum)
      + N * ∑ d : Dev nD, ([0, 1, 2].map fun i : Fin 3 => if (c, k) = (fwd d i, some (true, i)) then 1 else 0).sum := by
  rw [Finset.mul_sum, ← Finset.sum_add_distrib]
  refine Finset.sum_congr rfl fun d _ => ?_
  unfold O₀
  rw [owedSignals_at, owedSends_at]

theorem owed_bar (c : Dev nD) : ∑ d : Dev nD, O₀ d (barCell c) () = 3 := by
  rw [owed_all, show (∑ d : Dev nD, ([0, 1, 2].map fun i => if (c, (none : CK)) = (fwd d i, none) then 1 else 0).sum) = 3 by revert c; decide,
    show (∑ d : Dev nD, ([0, 1, 2].map fun i : Fin 3 => if (c, (none : CK)) = (fwd d i, some (true, i)) then 1 else 0).sum) = 0 by revert c; decide]
  rfl
theorem owed_recv (c : Dev nD) (j : Fin 3) : ∑ d : Dev nD, O₀ d (recvCell c j) () = N := by
  rw [owed_all, show (∑ d : Dev nD, ([0, 1, 2].map fun i => if (c, (some (true, j) : CK)) = (fwd d i, none) then 1 else 0).sum) = 0 by revert c j; decide,
    show (∑ d : Dev nD, ([0, 1, 2].map fun i : Fin 3 => if (c, (some (true, j) : CK)) = (fwd d i, some (true, i)) then 1 else 0).sum) = 1 by revert c j; decide,
    Nat.mul_one, Nat.zero_add]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

omit [FloatOps F] in
theorem creds (c : Dev nD) : (Pipeline.launchCred O₀ c : sProp 𝕄) ⊢ arrivals c := by
  unfold Pipeline.launchCred arrivals
  rw [← launch_at _ _ (owed_bar c), ← launch_at _ _ (owed_recv c 0), ← launch_at _ _ (owed_recv c 1), ← launch_at _ _ (owed_recv c 2)]
  have hl : ([none, some (true, 0), some (true, 1), some (true, 2)] : List CK).Nodup := by decide
  refine (bigSep_subset (t := ([none, some (true, 0), some (true, 1), some (true, 2)] : List CK).toFinset.map ⟨csem, csem_injective⟩) (Finset.subset_univ _)).trans ?_
  rw [bigSep_map, bigSep_eq_bigSepL_of_eq [none, some (true, 0), some (true, 1), some (true, 2)] rfl hl]
  exact Entails.refl _

end Cert.Proof

end
-- ==== Proof.Launch.lean ====
/-
# The whole run

The region is launched on every device from the state dealt out. Every run ends; on every device the result is `out`,
the arguments are as they were, and every counter is at zero.
-/
module

public import proofs.«01_k».proof.Proof.Setup
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Windows

variable {F : FTy → Type} [FloatOps F]

local notation "𝕄" => MT nD τ sig Unit (Elt F) ℕ UU ℕ

variable (m : (ℓ : Loc nD τ sig) → Buf (Elt F) ℓ) (ρ : Dev nD → PrngReg)

/-! ## The region's data -/

abbrev args (c : Dev nD) : sProp (MT nD τ sig Unit (Elt F) ℕ UU ℕ) := iprop(argAt m c main_arg0 ∗ argAt m c main_arg1)

/-- What a device's program starts from. -/
def start (c : Dev nD) : sProp 𝕄 := iprop(G' m c ∗ arrivals c ∗ levAts L lv ∗ args m c)
/-- With the kernel's own buffers. -/
def atStart (c : Dev nD) : sProp 𝕄 := iprop(start m c ∗ scratch c)
/-- What it ends with. -/
def atEnd (c : Dev nD) : sProp 𝕄 := iprop(args m c ∗ localZeros c ∗ cellZeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => out m c
  Φ t := match t with
    | ⟨0, _⟩ => atStart m c
    | ⟨_ + 1, _⟩ => atEnd m c
  q _ := fullShare
  owed t := match t with
    | ⟨0, _⟩ => O₀ c
    | ⟨_ + 1, _⟩ => 0

omit [FloatOps F] in
/-- A whole buffer of the core, at contents `X`. -/
theorem owns_buffer (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev tt : Fin cfg0.N := t0_0

def pre' (c : Dev nD) : sProp 𝕄 :=
  iprop(atStart m c ∗ (dats m ρ 0 c).owesAt () tt.castSucc
    ∗ ∃ d, owns (c : Thread nD τ) (Memref.whole cc0_stg0_0) fullShare ((dats m ρ 0 c).before (0 : Fin 1) tt d))
def post' (c : Dev nD) : sProp 𝕄 :=
  iprop(atEnd m c ∗ (dats m ρ 0 c).owesAt () tt.succ ∗ owns (c : Thread nD τ) (Memref.whole cc0_stg0_0) fullShare (out m c))

theorem pre_open (c : Dev nD) : pre' m ρ c ⊢ iprop(∃ K, bodyPre m K c) := by
  unfold pre' atStart start G' bodyPre Dat.owesAt Pipeline.owesWithin obl
  simp only [owns_buffer]
  iintro ⟨⟨⟨⟨⟨%K, Hg⟩, Hz⟩, Hcr, Hl, Ha⟩, Hs⟩, ⟨%W, -, HO⟩, ⟨%d, %f, -, Hout⟩⟩
  iexists K
  isplitl [Hg]; · iexact Hg
  isplitl [Hcr]; · iexact Hcr
  isplitl [Hl]; · iexact Hl
  isplitl [Ha]; · iexact Ha
  isplitl [Hz]; · iexact Hz
  isplitl [Hs]; · iexact Hs
  isplitl [HO]; · iexists W; iexact HO
  iexists f; iexact Hout

theorem post_close (c : Dev nD) : bodyPost m c ⊢ post' m ρ c := by
  unfold post' atEnd bodyPost Dat.owesAt Pipeline.owesWithin obl
  simp only [owns_buffer]
  iintro ⟨Ha, Hz, Hc, Hs, ⟨%W, HO⟩, Hout⟩
  isplitl [Ha Hz Hc Hs]
  · isplitl [Ha]; · iexact Ha
    isplitl [Hz]; · iexact Hz
    isplitl [Hc]; · iexact Hc
    iexact Hs
  isplitl [HO]
  · iexists W
    isplitr; · ipureintro; exact fun _ _ => Or.inl trivial
    iexact HO
  iexists (out m c)
  isplitr; · ipureintro; rfl
  iexact Hout

theorem body_run (c : Dev nD) :
    pre' m ρ c ⊢ wp frame (wpE (defs₀ (F := F)) 𝒱₀ (c : Thread nD τ) none) Set.univ (bodyAt0 (F := F) tt) (fun _ => post' m ρ c) := by
  refine (pre_open m ρ c).trans (exists_elim fun K => ?_)
  iintro H
  iapply (sound_body m K c fun _ => post' m ρ c)
  isplitl [H]; · iexact H
  iapply (post_close m ρ c)

set_option maxRecDepth 4000 in
theorem body_obligation (c : Dev nD) : BodyObligation (dats (F := F) m ρ 0 c) (defs₀ (F := F)) 𝒱₀ () Set.univ := fun t => by
  rw [show t = tt from fin_N0 t]
  rw [bigSep_W0, bigSep_W0]
  exact body_run m ρ c

/-! ## The launch's side conditions -/

theorem share_eq (c : Dev nD) (w : Fin cfg0.W) : (dats m ρ 0 c).share w = fullShare := by unfold Dat.share; split <;> rfl

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact Ha
  · iempintro

theorem phi_first (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = atStart m c from rfl, scopedRest0_eq]
  unfold atStart scratch
  iintro ⟨Hs, -, Hr⟩
  isplitl [Hs]; · iexact Hs
  iexact Hr

/-- What a device keeps to the end of the program: its unscoped counters at zero, its arguments. -/
def kept (c : Dev nD) : sProp 𝕄 := iprop(unscopedSems0 c ∗ args m c)

theorem phi_last (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = atEnd m c from rfl, scopedRest0_eq]
  unfold atEnd kept scratch
  iintro ⟨Ha, Hz, Hc, Hs⟩
  ihave H := (sems_join c) $$ [Hz Hc]
  · isplitl [Hc] <;> iassumption
  icases H with ⟨Ho, Hu⟩
  isplitl [Hu Ha]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What is read off a device at the end besides the result: its counters the kernel does not own, and its arguments. -/
def QY (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ s.mem ((c : Thread nD τ).loc main_arg1) = m ((c : Thread nD τ).loc main_arg1)

omit [FloatOps F] in
theorem args_list (c : Dev nD) : (args m c : sProp 𝕄)
    ⊢ bigSep ([main_arg0, main_arg1] : List (Ref sig .tc)).toFinset fun b => ((c : Thread nD τ).loc b) ↦{fullShare} m ((c : Thread nD τ).loc b) := by
  rw [bigSep_eq_bigSepL_of_eq [main_arg0, main_arg1] rfl (by decide)]
  exact Entails.refl _

theorem kept_read (c : Dev nD) (s' : Phys nD τ sig (Elt F)) :
    iprop(kept m c ∗ emp ∗ SI s') ⊢ |={Set.univ}=> (iprop(⌜QY m c s'.mem⌝ ∗ SI s') : sProp 𝕄) := by
  unfold kept
  iintro ⟨⟨Hu, Ha⟩, -, HSI⟩
  imod (Pipeline.unscopedSems0_read (X := unscopedSems0 c) (c := c) fupd_intro s') $$ [Hu HSI] with ⟨%hs, HSI⟩
  · isplitl [Hu] <;> iassumption
  ihave H := (pointsTo_read_all ([main_arg0, main_arg1] : List (Ref sig .tc)).toFinset (fun b => (c : Thread nD τ).loc b)
      (fun b => m ((c : Thread nD τ).loc b)) s') $$ [Ha HSI]
  · isplitl [Ha]
    · iapply (args_list m c); iexact Ha
    · iexact HSI
  icases H with ⟨%ha, HSI⟩
  imodintro
  isplitr
  · ipureintro
    exact ⟨hs, ha main_arg0 (by decide), ha main_arg1 (by decide)⟩
  · iexact HSI

/-! ## The run -/

/-- How every run ends. -/
def Ends (r : PUnit × MemSt nD τ sig (Elt F)) : Prop :=
  (∀ c : Dev nD, r.2.mem ((c : Thread nD τ).loc main_v1) = out m c
    ∧ r.2.mem ((c : Thread nD τ).loc main_arg0) = m ((c : Thread nD τ).loc main_arg0)
    ∧ r.2.mem ((c : Thread nD τ).loc main_arg1) = m ((c : Thread nD τ).loc main_arg1))
  ∧ r.2.sem = fun _ => 0

/-- The result array at the end: its one block is the whole array, written once. -/
theorem final_out (c : Dev nD) : (dats m ρ 0 c).arrAt (0 : Fin 1) cfg0.N = out m c := by
  have hread : (win0_0.blk tt).view.read (Elt F) ((dats m ρ 0 c).arrAt (0 : Fin 1) cfg0.N) = out m c := by
    rw [show cfg0.N = (tt : Fin cfg0.N).val + 1 from rfl, (dats m ρ 0 c).arrAt_succ (0 : Fin 1) tt, if_pos (flush0_0 tt)]
    exact View.read_write_univ _ _
  have hz : (fun a => (win0_0.index tt) a * main_v1.ty.shape.size a) = fun _ => 0 := funext fun a => by fin_cases a <;> decide
  have hwhole := Memref.read_access_unit_zero (Elt F) main_v1 hz (fun a => by fin_cases a <;> decide) ((dats m ρ 0 c).arrAt (0 : Fin 1) cfg0.N)
  exact hwhole.symm.trans hread

set_option maxRecDepth 8000 in
/-- For any float values, from any memory with the counters at zero: every fair run of the program ends, with every
    device's result at `out`, its arguments unchanged, every counter at zero. -/
theorem run_main : θ_run defs (onTc (τ := τ) (main (F := F))) (s₀ m ρ) (Ends m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (Entails.of_eq (show BI.own (((Emb.inl : Emb UB (UB × Counters)).trans embR) (initOf allCells allToks)) = BI.own (ER (initOf allCells allToks)) from rfl)) $$ HX
      imod (fund m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi_first m ρ) (hout := phi_last m ρ)
    (QY := QY m) (hY := kept_read m)
    (hQ := fun _ h hs => ⟨fun c => ⟨((h c).1 0).trans (final_out m ρ c), (h c).2.2.2.1, (h c).2.2.2.2⟩, sem_eq_zero hs fun c => (h c).2.2.1⟩)

end Cert.Proof

end
-- ==== Proof.Sums.lean ====
/-
# What the kernel's operations compute, element by element, over the ideal values

The products as sums, the activation as a formula of one number, and a sum over 4096 positions as four sums over 1024,
taken in the order in which a device meets the blocks.
-/
module

public import proofs.«01_k».proof.Proof.Values
public import Idealize.ShloMosaic.PureOps.Ideal
public import Idealize.ShloMosaic.Lib.Pointwise

@[expose] public section

noncomputable section

namespace Cert.Proof

open Cert.KernelIdeal Cert.KernelIdeal.Gen
open Idealize.ShloMosaic Idealize.ShloMosaic.TcCoe

/-- The product of a block with a band, element by element; -/
theorem startTile_apply (A : S1024x1024.Idx → Elt Ideal .f32) (B : S1x1024x512.Idx → Elt Ideal .f32) (j : S1024x512.Idx) :
    startTile A B j = ∑ k : Fin 1024, A (ix2 (j 0) k) * B (ix3 0 k (j 1)) := by
  pointwise [startTile, k0_pay1]

/-- the same, added to what is there. -/
theorem addTile_apply (A : S1024x1024.Idx → Elt Ideal .f32) (B : S1x1024x512.Idx → Elt Ideal .f32)
    (o : S1024x512.Idx → Elt Ideal .f32) (j : S1024x512.Idx) :
    addTile A B o j = o j + ∑ k : Fin 1024, A (ix2 (j 0) k) * B (ix3 0 k (j 1)) := by
  pointwise [addTile, k0_pay5]

/-- The activation of one number: half of it, times one plus the hyperbolic tangent of a cubic in it. -/
def gelu (y : EReal) : EReal :=
  Ideal.ofBits FTy.f32 0x3F000000#32 * y
    * (1 + Ideal.tanh (Ideal.ofBits FTy.f32 0x3F4C422A#32 * (y + Ideal.ofBits FTy.f32 0x3D372713#32 * (y * y * y))))

/-- The kernel multiplies the cubic's coefficient in first: the product is the same. -/
theorem actRows_apply (v : S256x2048.Idx → Elt Ideal .f32) (j : S256x2048.Idx) : actRows v j = gelu (v j) := by
  pointwise [actRows, k0_pay21, gelu]
  rw [mul_assoc (Ideal.ofBits FTy.f32 1027024659#32 * v j) (v j) (v j), mul_assoc (Ideal.ofBits FTy.f32 1027024659#32) (v j) (v j * v j),
    mul_assoc (v j) (v j) (v j)]

/-- Position `k` of the `d`-th stretch of 1024 among 4096. -/
def pos (d : Fin 4) (k : Fin 1024) : Fin 4096 := ⟨1024 * d.val + k.val, by omega⟩

/-- A sum over 4096 positions, stretch by stretch; -/
theorem sum_stretches (f : Fin 4096 → EReal) : ∑ K, f K = ∑ d : Fin 4, ∑ k : Fin 1024, f (pos d k) := by
  rw [← Fintype.sum_prod_type']
  refine (Fintype.sum_equiv (finProdFinEquiv (m := 4) (n := 1024)) _ _ fun p => congrArg f (Fin.ext ?_)).symm
  show 1024 * p.1.val + p.2.val = p.2.val + 1024 * p.1.val
  omega

theorem src_injective (c : Dev nD) : Function.Injective (src c) := by revert c; decide

/-- and with the stretches in the order in which device `c` meets them. -/
theorem sum_met (c : Dev nD) (f : Fin 4096 → EReal) :
    ∑ K, f K = ∑ k, f (pos (src c 0) k) + ∑ k, f (pos (src c 1) k) + ∑ k, f (pos (src c 2) k) + ∑ k, f (pos (src c 3) k) := by
  rw [sum_stretches, ← Fin.sum_univ_four (f := fun s => ∑ k, f (pos (src c s) k))]
  exact (Fintype.sum_bijective (src c) ((Finite.injective_iff_bijective).mp (src_injective c)) _ _ fun _ => rfl).symm

end Cert.Proof

end
-- ==== Proof.Whole.lean ====
/-
# The result over the ideal values

Where every device holds its columns of one array `X` and a copy of one array `W`, device `c`'s result is the activation
of rows `1024·c` to `1024·c + 1023` of the product of `X` and `W`.
-/
module

public import proofs.«01_k».proof.Proof.Sums
public import Idealize.ShloMosaic.Lib.Layout

@[expose] public section

noncomputable section

namespace Cert.Proof

open Cert.KernelIdeal Cert.KernelIdeal.Gen
open Idealize.ShloMosaic Idealize.ShloMosaic.TcCoe

abbrev SX : Shape := ⟨2, ![4096, 4096]⟩
abbrev SY : Shape := ⟨2, ![4096, 2048]⟩

/-- One element of the product of the whole arrays. -/
def dot (X : SX.Idx → EReal) (W : SY.Idx → EReal) (i : SY.Idx) : EReal := ∑ K : Fin 4096, X (ix2 (i 0) K) * W (ix2 K (i 1))

/-- The whole result. -/
def whole (X : SX.Idx → EReal) (W : SY.Idx → EReal) : SY.Idx → EReal := fun i => gelu (dot X W i)

variable (m : (ℓ : Loc nD τ sig) → Buf (Elt Ideal) ℓ) (X : SX.Idx → EReal) (W : SY.Idx → EReal)

/-- Every device holds its columns of `X` and all of `W`. -/
def Holds : Prop := ∀ c : Dev nD,
  m ((c.tc : Thread nD τ).loc main_arg0) = Layout.block ⟨2, ![4096, 1024]⟩ SX 1 4 c X ∧ m ((c.tc : Thread nD τ).loc main_arg1) = W

variable {m X W}

theorem xBlk_at (h : Holds m X W) (c d : Dev nD) (r k : Fin 1024) : xBlk m d c (ix2 r k) = X (ix2 (pos c r) (pos d k)) := by
  show m ((d.tc : Thread nD τ).loc main_arg0) ((xRect c).emb (ix2 r k)) = _
  rw [(h d).1]
  refine congrArg X (idx2_ext ?_ ?_)
  · show 1024 * c.val + 1 * r.val = 1024 * c.val + r.val; omega
  · show d.val * 1024 + (0 + 1 * k.val) = 1024 * d.val + k.val; omega

theorem wBlk_at (h : Holds m X W) (c d : Dev nD) (k : Fin 1024) (n : Fin 2048) : wBlk m c d (ix2 k n) = W (ix2 (pos d k) n) := by
  show m ((c.tc : Thread nD τ).loc main_arg1) ((wRect d).emb (ix2 k n)) = _
  rw [(h c).2]
  refine congrArg W (idx2_ext ?_ ?_)
  · show 1024 * d.val + 1 * k.val = 1024 * d.val + k.val; omega
  · show 0 + 1 * n.val = n.val; omega

/-- The term of position `K` in the sum of row `r`, column `n` of device `c`'s rows. -/
def term (X : SX.Idx → EReal) (W : SY.Idx → EReal) (c : Dev nD) (i : S1024x2048.Idx) (K : Fin 4096) : EReal :=
  X (ix2 (pos c (i 0)) K) * W (ix2 K (i 1))

/-- What step `s` adds to an element. -/
theorem step_sum (h : Holds m X W) (c : Dev nD) (s : Fin 4) (i : S1024x2048.Idx) :
    ∑ k : Fin 1024, opX m c s (ix2 (inCol i 0) k) * wBand (colBand i) (opW m c s) (ix3 0 k (inCol i 1))
      = ∑ k, term X W c i (pos (src c s) k) := by
  refine Finset.sum_congr rfl fun k _ => ?_
  have hn : bandIx (colBand i) (ix3 0 k (inCol i 1)) = ix2 k (i 1) := by
    refine idx2_ext rfl ?_
    show 512 * ((i 1).val / 512) + (i 1).val % 512 = (i 1).val
    exact Nat.div_add_mod _ _
  have hw : wBand (colBand i) (opW m c s) (ix3 0 k (inCol i 1)) = W (ix2 (pos (src c s) k) (i 1)) := by
    show opW m c s (bandIx _ _) = _
    rw [hn]; exact wBlk_at h c (src c s) k (i 1)
  rw [hw]
  exact congrArg (· * _) (xBlk_at h c (src c s) (i 0) k)

/-- The four products together are the product of the whole arrays, at device `c`'s rows. -/
theorem summed_at (h : Holds m X W) (c : Dev nD) (i : S1024x2048.Idx) : summed m c i = ∑ K, term X W c i K := by
  rw [sum_met c]
  show tile m c (colBand i) 3 (inCol i) = _
  show addTile _ _ (addTile _ _ (addTile _ _ (startTile _ _))) _ = _
  rw [addTile_apply, addTile_apply, addTile_apply, startTile_apply]
  rw [← step_sum h c 0 i, ← step_sum h c 1 i, ← step_sum h c 2 i, ← step_sum h c 3 i]
  rfl

theorem rows_back (i : S1024x2048.Idx) : (rowRect (rowBand i)).emb (inRow i) = i := by
  have h := row_emb (rowBand i) (inRow i)
  refine idx2_ext (h.1.trans ?_) h.2
  show 256 * ((i 0).val / 256) + (i 0).val % 256 = (i 0).val
  exact Nat.div_add_mod _ _

/-- Device `c`'s result is its block of the whole result. -/
theorem out_eq (h : Holds m X W) (c : Dev nD) : out m c = Layout.block ⟨2, ![1024, 2048]⟩ SY 0 4 c (whole X W) := by
  funext i
  show actRows _ (inRow i) = _
  rw [actRows_apply]
  show gelu (summed m c ((rowRect (rowBand i)).emb (inRow i))) = gelu _
  rw [rows_back, summed_at h]
  refine congrArg gelu (Finset.sum_congr rfl fun K _ => ?_)
  refine congrArg₂ (fun a b => X a * W b) (idx2_ext ?_ rfl) (idx2_ext rfl rfl)
  show 1024 * c.val + (i 0).val = c.val * 1024 + (i 0).val
  omega

end Cert.Proof

end
-- ==== Proof.Ref.lean ====
/-
# The reference's result, element by element

The reference multiplies the whole arrays and applies the activation: its result is `whole`.
-/
module

public import proofs.«01_k».proof.Proof.Whole
public import proofs.«01_k».proof.Proof.Gen.ReferenceIdeal.Run

@[expose] public section

noncomputable section

namespace Cert.Proof.Ref

open Cert.ReferenceIdeal Cert.ReferenceIdeal.Gen
open Idealize.ShloMosaic Idealize.ShloMosaic.TcCoe Idealize.SL.Sem

/-- The product of the whole arrays, as the reference takes it. -/
abbrev prod (X : SX.Idx → EReal) (W : SY.Idx → EReal) : FVec Ideal S4096x2048 .f32 :=
  Host.dotGeneral (F := Ideal) (φ₁ := .f32) (φ₂ := .f32) dot_S4096x4096_S4096x2048_S4096x2048_1_0_0_1_n_n none X W

theorem prod_apply (X : SX.Idx → EReal) (W : SY.Idx → EReal) (i : SY.Idx) : prod X W i = dot X W i := by
  pointwise [prod, dot]

/-- What the reference does with the product. -/
abbrev activated (y : FVec Ideal S4096x2048 .f32) : FVec Ideal S4096x2048 .f32 :=
  mulf (mulf (broadcastInDim S4096x2048 ![] bcast_S_S4096x2048 (constant S_ .f32 0x3F000000#32)) y)
    (addf (broadcastInDim S4096x2048 ![] bcast_S_S4096x2048 (constant S_ .f32 0x3F800000#32))
      (Host.tanh (mulf (broadcastInDim S4096x2048 ![] bcast_S_S4096x2048 (constant S_ .f32 0x3F4C422A#32))
        (addf y (mulf (broadcastInDim S4096x2048 ![] bcast_S_S4096x2048 (constant S_ .f32 0x3D372713#32)) (mulf (mulf y y) y))))))

theorem activated_apply (y : FVec Ideal S4096x2048 .f32) (i : SY.Idx) : activated y i = gelu (y i) := by
  pointwise [activated, gelu]

theorem result (X : SX.Idx → EReal) (W : SY.Idx → EReal) : activated (prod X W) = whole X W := by
  funext i
  rw [activated_apply, prod_apply]
  rfl

variable (m : (ℓ : Loc nD τ sig) → Buf (Elt Ideal) ℓ) (ρ : Dev nD → PrngReg)

abbrev argX : SX.Idx → EReal := m (((0 : Dev nD).tc : Thread nD τ).loc main_arg0)
abbrev argW : SY.Idx → EReal := m (((0 : Dev nD).tc : Thread nD τ).loc main_arg1)

/-- Every fair run of the reference ends with the result at `whole` and the arguments unchanged. -/
theorem run : θ_run defs (onTc (τ := τ) (main (F := Ideal))) ⟨m, fun _ => 0, ρ⟩ fun r =>
    r.2.mem (((0 : Dev nD).tc : Thread nD τ).loc main_v13) = whole (argX m) (argW m)
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1) :=
  (θ_run defs _ _).mono (fun _ h => ⟨(h 0).1.trans (result (argX m) (argW m)), (h 0).2⟩) (Cert.ReferenceIdeal.Value.run (F := Ideal) m ρ)

end Cert.Proof.Ref

end
-- ==== Proof.lean ====
/-
# The claims

The kernel as printed and its reading over the ideal values are one program (Proof/Same.lean), so one run, over any float values
(`run_main`, Proof/Launch.lean), serves for both: it ends with every device's result at `out`, the arguments unchanged
and every counter at zero. The value claim joins three facts: the run, that `out` over the ideal values is the device's
rows of the whole result (`out_eq`, Proof/Whole.lean), and that the reference's result is that whole result
(Proof/Ref.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Launch
public import proofs.«01_k».proof.Proof.Whole
public import proofs.«01_k».proof.Proof.Ref

@[expose] public section

noncomputable section

namespace Cert.Proof

open Idealize.ShloMosaic Idealize.SL.Sem

/-- The kernel over the machine's own values: the run at those values. -/
theorem frame_kernel : Cert.quiescent_Kernel := fun m ρ _ =>
  (congrArg (fun d => θ_run d (onTc (τ := Cert.Kernel.τ) (Cert.Kernel.main (F := Bits))) ⟨m, fun _ => 0, ρ⟩ _) same_defs).mpr
    ((θ_run Cert.KernelIdeal.defs _ _).mono (fun _ h => ⟨fun c => (h.1 c).2, h.2⟩) (run_main (F := Bits) m ρ))

/-- The kernel over the ideal values. -/
theorem frame_ideal : Cert.quiescent_KernelIdeal := fun m ρ _ =>
  (θ_run Cert.KernelIdeal.defs _ _).mono (fun _ h => ⟨fun c => (h.1 c).2, h.2⟩) (run_main (F := Ideal) m ρ)

/-- The reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with its rows of the reference's result. -/
theorem value : Cert.algebraic_KernelIdeal_ReferenceIdeal := fun m ρ m' ρ' _ hin =>
  ⟨whole (Ref.argX m') (Ref.argW m'),
    (θ_run Cert.KernelIdeal.defs _ _).mono (fun _ h c => ⟨(h.1 c).1.trans (out_eq hin c), (h.1 c).2⟩) (run_main (F := Ideal) m ρ),
    Ref.run m' ρ'⟩

theorem claim : Cert.Claim :=
  ⟨Cert.Kernel.Gen.facts, Cert.KernelIdeal.Gen.facts, Cert.ReferenceIdeal.Gen.facts,
    frame_kernel, frame_ideal, frame_reference, trivial, value⟩

end Cert.Proof

end
